-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S4x64x512 : Shape := ⟨3, ![4, 64, 512]⟩
abbrev S4 : Shape := ⟨1, ![4]⟩
abbrev S_ : Shape := ⟨0, ![]⟩
abbrev S1x64x512 : Shape := ⟨3, ![1, 64, 512]⟩
abbrev S64x512 : Shape := ⟨2, ![64, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1x512x1024, .bf16⟩
  | .hbm, ⟨1, _⟩ => ⟨S512x512, .f32⟩
  | .local _ .vmem, ⟨0, _⟩ => ⟨S1x512x1024, .bf16⟩
  | .local _ .vmem, ⟨1, _⟩ => ⟨S512x512, .f32⟩
  | .local _ .vmem, ⟨2, _⟩ => ⟨S4x64x512, .bf16⟩
  | .local _ .vmem, ⟨3, _⟩ => ⟨S4x64x512, .bf16⟩
  | .local _ .vmem, ⟨4, _⟩ => ⟨S4x64x512, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v13 : BitVec 32 := Scalar.muli v2 c2_i32_7
  let v14 : BitVec 32 := Scalar.addi c0_i32 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_8 : BitVec 32 := 1#32
  let v15 : BitVec 32 := Scalar.muli v7 c1_i32_8
  let v16 : BitVec 32 := Scalar.addi v14 v15
  v16.toNat
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v17 : BitVec 32 := Scalar.muli v6 c2_i32_10
  let v18 : BitVec 32 := Scalar.addi c0_i32_11 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v19 : BitVec 32 := Scalar.muli v5 c1_i32_12
  let v20 : BitVec 32 := Scalar.addi v18 v19
  v20.toNat
def k0_off1 (d0 : Dev nD) (c0_i32_14 : BitVec 32) : Fin 3 → Nat :=
  let c0 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v10 : BitVec 32 := Scalar.muli v2 c256_i32
  let v21 : BitVec 32 := Scalar.addi v10 c0_i32_14
  let v22 : Index := Scalar.indexCast v21
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32_4 : BitVec 32 := 512#32
  let v9 : BitVec 32 := Scalar.muli v7 c512_i32_4
  let v23 : Index := Scalar.indexCast v9
  ![0, v22.toNat, v23.toNat]
def k0_dev3 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v29 : BitVec 32 := Scalar.muli v2 c2_i32_22
  let v30 : BitVec 32 := Scalar.addi c0_i32_23 v29
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_24 : BitVec 32 := 1#32
  let v31 : BitVec 32 := Scalar.muli v7 c1_i32_24
  let v32 : BitVec 32 := Scalar.addi v30 v31
  v32.toNat
def k0_dev4 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v49 : BitVec 32 := Scalar.muli v2 c2_i32_36
  let v50 : BitVec 32 := Scalar.addi c0_i32_37 v49
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_38 : BitVec 32 := 1#32
  let v51 : BitVec 32 := Scalar.muli v7 c1_i32_38
  let v52 : BitVec 32 := Scalar.addi v50 v51
  v52.toNat
def k0_dev5 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v69 : BitVec 32 := Scalar.muli v2 c2_i32_50
  let v70 : BitVec 32 := Scalar.addi c0_i32_51 v69
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_52 : BitVec 32 := 1#32
  let v71 : BitVec 32 := Scalar.muli v7 c1_i32_52
  let v72 : BitVec 32 := Scalar.addi v70 v71
  v72.toNat
def k0_dev6 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v89 : BitVec 32 := Scalar.muli v2 c2_i32_63
  let v90 : BitVec 32 := Scalar.addi c0_i32_64 v89
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_65 : BitVec 32 := 1#32
  let v91 : BitVec 32 := Scalar.muli v7 c1_i32_65
  let v92 : BitVec 32 := Scalar.addi v90 v91
  v92.toNat
def k0_dev7 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v111 : BitVec 32 := Scalar.muli v6 c2_i32_85
  let v112 : BitVec 32 := Scalar.addi c0_i32_86 v111
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v113 : BitVec 32 := Scalar.muli v5 c1_i32_87
  let v114 : BitVec 32 := Scalar.addi v112 v113
  v114.toNat
def k0_dev8 (d0 : Dev nD) : Nat :=
  let c0_i32_108 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_107 : BitVec 32 := 2#32
  let v133 : BitVec 32 := Scalar.muli v6 c2_i32_107
  let v134 : BitVec 32 := Scalar.addi c0_i32_108 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_109 : BitVec 32 := 1#32
  let v135 : BitVec 32 := Scalar.muli v5 c1_i32_109
  let v136 : BitVec 32 := Scalar.addi v134 v135
  v136.toNat
def k0_dev9 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v155 : BitVec 32 := Scalar.muli v6 c2_i32_129
  let v156 : BitVec 32 := Scalar.addi c0_i32_130 v155
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v157 : BitVec 32 := Scalar.muli v5 c1_i32_131
  let v158 : BitVec 32 := Scalar.addi v156 v157
  v158.toNat
def k0_dev10 (d0 : Dev nD) : Nat :=
  let c0_i32_152 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_151 : BitVec 32 := 2#32
  let v177 : BitVec 32 := Scalar.muli v6 c2_i32_151
  let v178 : BitVec 32 := Scalar.addi c0_i32_152 v177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_153 : BitVec 32 := 1#32
  let v179 : BitVec 32 := Scalar.muli v5 c1_i32_153
  let v180 : BitVec 32 := Scalar.addi v178 v179
  v180.toNat
def k0_off2 (d0 : Dev nD) (c0_i32_158 : BitVec 32) : Fin 3 → Nat :=
  let c0_159 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v10 : BitVec 32 := Scalar.muli v2 c256_i32
  let v189 : BitVec 32 := Scalar.addi v10 c0_i32_158
  let v190 : Index := Scalar.indexCast v189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v191 : Index := Scalar.indexCast v8
  ![0, v190.toNat, v191.toNat]
def k0_off3 (d0 : Dev nD) (c0_i32_158 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v10 : BitVec 32 := Scalar.muli v2 c256_i32
  let v189 : BitVec 32 := Scalar.addi v10 c0_i32_158
  let v199 : Index := Scalar.indexCast v189
  let c0_163 : Index := 0#32
  ![v199.toNat, 0]
def k0_off4 (d0 : Dev nD) (c0_i32_193 : BitVec 32) : Fin 3 → Nat :=
  let c0_194 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_5 : BitVec 32 := 256#32
  let v11 : BitVec 32 := Scalar.muli v6 c256_i32_5
  let v247 : BitVec 32 := Scalar.addi v11 c0_i32_193
  let v248 : Index := Scalar.indexCast v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v249 : Index := Scalar.indexCast v8
  ![0, v248.toNat, v249.toNat]
def k0_off5 (d0 : Dev nD) (c0_i32_193 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_5 : BitVec 32 := 256#32
  let v11 : BitVec 32 := Scalar.muli v6 c256_i32_5
  let v247 : BitVec 32 := Scalar.addi v11 c0_i32_193
  let v257 : Index := Scalar.indexCast v247
  let c0_198 : Index := 0#32
  ![v257.toNat, 0]
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x512x1024, .bf16⟩
  | .hbm, ⟨1, _⟩ => ⟨S2x512x1024, .f32⟩
  | .hbm, ⟨2, _⟩ => ⟨S_, .f32⟩
  | .hbm, ⟨3, _⟩ => ⟨S512x1024, .f32⟩
  | _, _ => ⟨S2x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Chunks.lean ====
/-
# 01_k — devices, slots and the chunks they carry

The mesh is 2 × 2: device `c` has coordinates `(x, y) = (c / 2, c % 2)`. The three scratch buffers are cut into four
slots of 64 × 512; a slot is what one copy reads or writes. This module names the two neighbours of a device, cuts a
scratch buffer into its slots and joins it again, and writes down what every slot holds once filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.ValueLayout
public import Idealize.ShloMosaic.Lib.Pointwise.Index
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

set_option backward.proofsInPublic true in
/-- The device beside `c` along `y`. -/
def yp (c : Dev nD) : Dev nD := ⟨(2 * (c.val / 2) + 1) - (c.val % 2), by revert c; decide⟩
set_option backward.proofsInPublic true in
/-- The device beside `c` along `x`. -/
def xp (c : Dev nD) : Dev nD := ⟨((c.val % 2) + 2) - 2 * (c.val / 2), by revert c; decide⟩

theorem yp_yp (c : Dev nD) : yp (yp c) = c := by revert c; decide
theorem xp_xp (c : Dev nD) : xp (xp c) = c := by revert c; decide
theorem yp_div (c : Dev nD) : (yp c).val / 2 = c.val / 2 := by revert c; decide
theorem yp_mod (c : Dev nD) : (yp c).val % 2 = 1 - c.val % 2 := by revert c; decide
theorem xp_div (c : Dev nD) : (xp c).val / 2 = 1 - c.val / 2 := by revert c; decide
theorem xp_mod (c : Dev nD) : (xp c).val % 2 = c.val % 2 := by revert c; decide
theorem div_le (c : Dev nD) : c.val / 2 ≤ 1 := by revert c; decide

/-- Stepping along `y`, as a rearrangement of the devices. -/
def flipY : Dev nD ≃ Dev nD := ⟨yp, yp, yp_yp, yp_yp⟩
/-- Stepping along `x`, as a rearrangement of the devices. -/
def flipX : Dev nD ≃ Dev nD := ⟨xp, xp, xp_xp, xp_xp⟩

/-! ## The resource algebra: the staging pipeline's cells and the exchange's own -/

/-- The exchange's share of the ghost state. -/
abbrev UB : Type := URounds (GSem nD τ sig) Bool
/-- The whole ghost state: the pipeline's and the exchange's. -/
abbrev UU : Type := UR sig nD τ × UB

local notation "𝕄" => MT nD τ sig Unit (Elt F) ℕ UU ℕ

/-- Where the pipeline's ghost state sits. -/
abbrev EP : Emb (UR sig nD τ) (MT nD τ sig Unit (Elt F) ℕ UU ℕ) := embL
/-- Where the exchange's ghost state sits. -/
abbrev ER : Emb UB (MT nD τ sig Unit (Elt F) ℕ UU ℕ) := embR

/-! ## Buffers and slots -/

/-- The staged input block, the staged output, and the three scratch buffers: what is sent along `y`, what arrives
    along `y`, what arrives along `x`. -/
abbrev xM : Memref sig .tc .vmem S1x512x1024 .bf16 := Memref.whole cc0_stg0_0
abbrev oM : Memref sig .tc .vmem S512x512 .f32 := Memref.whole cc0_stg1_0
abbrev sM : Memref sig .tc .vmem S4x64x512 .bf16 := Memref.whole cc0_scratch0
abbrev yM : Memref sig .tc .vmem S4x64x512 .bf16 := Memref.whole cc0_scratch1
abbrev zM : Memref sig .tc .vmem S4x64x512 .bf16 := Memref.whole cc0_scratch2

theorem slot_inb : ∀ s : Fin 4, ∀ a, (![s.val, 0, 0] : Fin 3 → ℕ) a + S1x64x512.size a ≤ S4x64x512.size a := by decide

/-- The rectangle of slot `s`. -/
abbrev slotRect (s : Fin 4) : Rect S4x64x512 := Rect.unit (s := S4x64x512) ![s.val, 0, 0] S1x64x512.size (slot_inb s)

/-- Slot `s` of a scratch buffer, as the copies name it. -/
abbrev slot (b : Memref sig .tc .vmem S4x64x512 .bf16) (s : Fin 4) : Memref sig .tc .vmem S64x512 .bf16 :=
  (b.slice (slotRect s) (fun _ => rfl)).squeeze S64x512 squeezes_S1x64x512_S64x512

theorem slotRect_mem (s : Fin 4) (i : S4x64x512.Idx) : i ∈ (slotRect s).set ↔ (i 0).val = s.val := by
  rw [LoadRect.mem_set]
  constructor
  · intro h
    obtain ⟨j, hj, he⟩ := h 0
    have hj' : j < 1 := hj
    have he' : (i 0).val = s.val + 1 * j := he
    omega
  · intro h a
    have hb := (i a).isLt
    match a, hb with
    | ⟨0, _⟩, _ => exact ⟨0, Nat.one_pos, h⟩
    | ⟨1, _⟩, hb => exact ⟨(i 1).val, hb, by show (i 1).val = 0 + 1 * (i 1).val; omega⟩
    | ⟨2, _⟩, hb => exact ⟨(i 2).val, hb, by show (i 2).val = 0 + 1 * (i 2).val; omega⟩

/-- A slot's elements are the rectangle's. -/
theorem slot_set (b : Memref sig .tc .vmem S4x64x512 .bf16) (s : Fin 4) :
    (slot b s).view.set = (slotRect s).set.map b.view.emb := by
  exact (View.set_reshape _ _).trans (View.set_slice _ _)

theorem slot_disjoint (b : Memref sig .tc .vmem S4x64x512 .bf16) (s t : Fin 4) (h : s ≠ t) :
    Disjoint (slot b s).view.set (slot b t).view.set := by
  rw [slot_set, slot_set, Finset.disjoint_map, Finset.disjoint_left]
  intro i hi ht
  exact h (Fin.ext (((slotRect_mem s i).mp hi).symm.trans ((slotRect_mem t i).mp ht)))

theorem slot_cover (b : Memref sig .tc .vmem S4x64x512 .bf16) :
    (Finset.univ : Finset (Fin 4)).biUnion (fun s => (slot b s).view.set) = b.view.set := by
  apply Finset.ext
  intro i
  rw [Finset.mem_biUnion]
  constructor
  · intro h
    obtain ⟨s, hs, hi⟩ := h
    rw [slot_set, Finset.mem_map] at hi
    obtain ⟨x, hx, hi⟩ := hi
    rw [← hi]
    exact View.emb_mem_set _ x
  · intro hi
    rw [View.set, Finset.mem_map] at hi
    obtain ⟨x, hx, hi⟩ := hi
    refine ⟨⟨(x 0).val, (x 0).isLt⟩, Finset.mem_univ _, ?_⟩
    rw [slot_set, Finset.mem_map]
    exact ⟨x, (slotRect_mem _ x).mpr rfl, hi⟩

/-! ## Holding a scratch buffer, whole or by slots -/

/-- Device `c` holds the whole scratch buffer `b`, whatever it contains. -/
def room (b : Memref sig .tc .vmem S4x64x512 .bf16) (c : Dev nD) : sProp 𝕄 :=
  iprop(∃ f : Buf (Elt F) (b.view.loc (c : Thread nD τ)), b.view.loc (c : Thread nD τ) ↦[b.view.set]{fullShare} f)

/-- Device `c`'s slot `s` of the scratch buffer `b`, whatever it contains. -/
def free (b : Memref sig .tc .vmem S4x64x512 .bf16) (c : Dev nD) (s : Fin 4) : sProp 𝕄 :=
  iprop(∃ f : Buf (Elt F) (b.view.loc (c : Thread nD τ)), b.view.loc (c : Thread nD τ) ↦[(slot b s).view.set]{fullShare} f)

/-- A share `q` of device `c`'s slot `s` of the scratch buffer `b`, which holds the chunk `X`. -/
def filled (b : Memref sig .tc .vmem S4x64x512 .bf16) (c : Dev nD) (s : Fin 4) (q : PosShare TreeShare)
    (X : S64x512.Idx → Elt F .bf16) : sProp 𝕄 :=
  iprop(∃ f : Buf (Elt F) (b.view.loc (c : Thread nD τ)),
    ⌜(slot b s).view.read (Elt F) f = X⌝ ∗ b.view.loc (c : Thread nD τ) ↦[(slot b s).view.set]{q} f)

omit [FloatOps F] in
instance room_storable (b : Memref sig .tc .vmem S4x64x512 .bf16) (c : Dev nD) :
    BI.Storable (upEmb : UEmb _ 𝕄) (room (F := F) b c) := by unfold room; infer_instance
omit [FloatOps F] in
instance filled_storable (b : Memref sig .tc .vmem S4x64x512 .bf16) (c : Dev nD) (s : Fin 4) (q) (X) :
    BI.Storable (upEmb : UEmb _ 𝕄) (filled (F := F) b c s q X) := by unfold filled; infer_instance

omit [FloatOps F] in
/-- A buffer held whole is held slot by slot. -/
theorem room_split (b : Memref sig .tc .vmem S4x64x512 .bf16) (c : Dev nD) :
    (room (F := F) b c) ⊢ bigSep Finset.univ (fun s => free (F := F) b c s) := by
  unfold room
  iintro ⟨%f, H⟩
  have hc := Entails.of_eq (Ring.pointsTo_sub_blocks (Ix := Unit) (Name := ℕ) (U := UU) (Lvl := ℕ) (ℓ := b.view.loc (c : Thread nD τ)) (q := fullShare)
    (fun s => (slot b s).view.set) (slot_disjoint b) b.view.set (slot_cover b) f)
  have hm : bigSep Finset.univ (fun s => (b.view.loc (c : Thread nD τ) ↦[(slot b s).view.set]{fullShare} f : sProp 𝕄))
      ⊢ bigSep Finset.univ (fun s => free (F := F) b c s) :=
    bigSep_mono fun s _ => by
      show (b.view.loc (c : Thread nD τ) ↦[(slot b s).view.set]{fullShare} f : sProp 𝕄) ⊢ free (F := F) b c s
      unfold free
      iintro H
      iexists f; iexact H
  iapply (hc.trans hm) $$ H

/-- Four slots, each held, are the buffer held whole. -/
theorem room_join (b : Memref sig .tc .vmem S4x64x512 .bf16) (c : Dev nD) :
    bigSep Finset.univ (fun s => free (F := F) b c s) ⊢ room (F := F) b c := by
  unfold free
  iintro H
  have f₀ : Buf (Elt F) (b.view.loc (c : Thread nD τ)) := Classical.choice inferInstance
  have hj := Ring.pointsTo_sub_blocks_join_exists (Ix := Unit) (Name := ℕ) (U := UU) (Lvl := ℕ) (ℓ := b.view.loc (c : Thread nD τ)) (fun s => (slot b s).view.set)
    (slot_disjoint b) b.view.set (slot_cover b) (q := fullShare) f₀
  unfold room
  iapply hj $$ H

omit [FloatOps F] in
/-- A filled slot is a held slot. -/
theorem filled_free (b : Memref sig .tc .vmem S4x64x512 .bf16) (c : Dev nD) (s : Fin 4) (X) :
    filled (F := F) b c s fullShare X ⊢ free (F := F) b c s := by
  unfold filled free
  iintro ⟨%f, -, H⟩
  iexists f; iexact H

omit [FloatOps F] in
/-- The two half shares of some elements, held at whatever contents, are the full share at the first contents. -/
theorem halves_whole {ℓ : Loc nD τ sig} (I : Finset (Idx ℓ)) (f g : Buf (Elt F) ℓ) :
    iprop((ℓ ↦[I]{fullShare.left} f) ∗ ℓ ↦[I]{fullShare.right} g) ⊢ (ℓ ↦[I]{fullShare} f : sProp 𝕄) := by
  refine (persistent_entails_right (pointsTo_agree (I := I) (J := I) (f := f) (g := g))).trans ?_
  iintro ⟨%h, Hf, Hg⟩
  iapply (pointsTo_share (PosShare.mem_left_op_right fullShare)).2
  isplitl [Hf]; · iexact Hf
  iapply (Entails.of_eq (pointsTo_congr fun i hi => ((h i (Finset.mem_inter.mpr ⟨hi, hi⟩)).1).symm)) $$ Hg

omit [FloatOps F] in
/-- The full share of some elements is its two halves. -/
theorem whole_halves {ℓ : Loc nD τ sig} (I : Finset (Idx ℓ)) (f : Buf (Elt F) ℓ) :
    (ℓ ↦[I]{fullShare} f : sProp 𝕄) ⊢ iprop((ℓ ↦[I]{fullShare.left} f) ∗ ℓ ↦[I]{fullShare.right} f) :=
  (pointsTo_share (PosShare.mem_left_op_right fullShare)).1

omit [FloatOps F] in
/-- Two halves of a slot are the slot. -/
theorem halves_free (b : Memref sig .tc .vmem S4x64x512 .bf16) (c : Dev nD) (s : Fin 4) (X) (Y) :
    iprop(filled (F := F) b c s fullShare.left X ∗ filled (F := F) b c s fullShare.right Y) ⊢ free (F := F) b c s := by
  unfold filled free
  iintro ⟨⟨%f, -, Hf⟩, ⟨%g, -, Hg⟩⟩
  iexists f
  iapply (halves_whole (F := F) (slot b s).view.set f g)
  isplitl [Hf] <;> iassumption

omit [FloatOps F] in
/-- A filled slot is two halves, each filled with the same chunk. -/
theorem filled_halves (b : Memref sig .tc .vmem S4x64x512 .bf16) (c : Dev nD) (s : Fin 4) (X) :
    filled (F := F) b c s fullShare X ⊢ iprop(filled (F := F) b c s fullShare.left X ∗ filled (F := F) b c s fullShare.right X) := by
  unfold filled
  iintro ⟨%f, %h, H⟩
  ihave H := (whole_halves (F := F) (slot b s).view.set f) $$ H
  icases H with ⟨Hl, Hr⟩
  isplitl [Hl]
  · iexists f; isplitr; · ipureintro; exact h
    iexact Hl
  · iexists f; isplitr; · ipureintro; exact h
    iexact Hr

/-! ## What the slots hold -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the input, as staged. -/
def xs (c : Dev nD) : (cc0_stg0_0 : Ref sig .tc).ty.Contents (Elt F) :=
  (win0_0.blk (0 : Fin 1)).view.read (Elt F) ((s₀ m ρ).mem ((c : Thread nD τ).loc main_arg0))

/-- The 64 × 512 piece of a staged block at an offset. -/
def piece (x : (cc0_stg0_0 : Ref sig .tc).ty.Contents (Elt F)) (off : Fin 3 → ℕ)
    (inb : ∀ a, off a + S1x64x512.size a ≤ S1x512x1024.size a) : S64x512.Idx → Elt F .bf16 :=
  shapeCast S64x512 ((xM : Memref sig .tc .vmem S1x512x1024 .bf16).view.readAt (Elt F)
    (Rect.unit (s := S1x512x1024) off S1x64x512.size inb).toLoadRect x) shapeCasts_S1x64x512_S64x512

/-- Chunk `s` of what device `c` sends along `y`: its own half of the rows, the other device's columns. -/
def sent (c : Dev nD) (s : Fin 4) : S64x512.Idx → Elt F .bf16 := piece (xs m ρ c) (k0_off1 c (BitVec.ofNat 32 (64 * s.val))) (k0_off1_inb c s)

/-- The elements a piece reads. -/
theorem piece_apply (x : (cc0_stg0_0 : Ref sig .tc).ty.Contents (Elt F)) (r k : ℕ) (off : Fin 3 → ℕ)
    (inb : ∀ a, off a + S1x64x512.size a ≤ S1x512x1024.size a) (h : off = ![0, r, k]) (j : S64x512.Idx) (i : S1x512x1024.Idx)
    (h1 : (i 1).val = r + (j 0).val) (h2 : (i 2).val = k + (j 1).val) : piece x off inb j = x i := by
  subst h
  unfold piece
  refine (shapeCast_apply _ _ j (ix3 (0 : Fin 1) (j 0) (j 1)) ?_).trans ?_
  · rw [Shape.rowMajor_val_three, Shape.rowMajor_val_two]
    show (0 * 64 + (j 0).val) * 512 + (j 1).val = (j 0).val * 512 + (j 1).val
    rw [Nat.zero_mul, Nat.zero_add]
  show x _ = x i
  refine congrArg x (funext fun a => Fin.ext ?_)
  match a with
  | ⟨0, _⟩ => have := (i 0).isLt; have h0 : (i 0).val < 1 := this; show 0 + 1 * 0 = (i 0).val; omega
  | ⟨1, _⟩ => show r + 1 * (j 0).val = (i 1).val; omega
  | ⟨2, _⟩ => show k + 1 * (j 1).val = (i 2).val; omega

end Cert.Exchange

end
-- ==== Proof.Protocol.lean ====
/-
# 01_k — the exchange's protocol

Every device has a barrier semaphore and, for each slot, four transfer semaphores. This module gives each of these cells
one round: who adds to it, how much, and what it hands over when it is waited for. It then writes down what a device owes
as it runs, orders the cells by level, and lists what a device holds at the start.
-/
module

public import proofs.«01_k».proof.Proof.Chunks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- The four kinds of transfer semaphore: a copy along `y` or along `x`, its sending or its receiving end. -/
inductive Leg | ysend | yrecv | xsend | xrecv
  deriving DecidableEq

instance : Fintype Leg := ⟨{.ysend, .yrecv, .xsend, .xrecv}, fun l => by cases l <;> decide⟩

/-- The kernel's array of four semaphores of each kind. -/
abbrev lane : Leg → DmaSems sig S4
  | .ysend => cc0_scratch3
  | .yrecv => cc0_scratch4
  | .xsend => cc0_scratch5
  | .xrecv => cc0_scratch6

theorem lane_inb : ∀ s : Fin 4, ∀ a, (![s.val] : Fin 1 → ℕ) a + S1.size a ≤ S4.size a := by decide

/-- The semaphore of kind `l` that goes with slot `s`. -/
abbrev laneSem (l : Leg) (s : Fin 4) : DmaSem sig :=
  (((lane l).slice (Rect.unit (s := S4) ![s.val] S1.size (lane_inb s))).squeeze S_ squeezes_S1_S_).sem

/-- The runtime's barrier semaphore. -/
abbrev barS : Sem sig := (SemArray.scalar (sig.barrier 0 rfl) : Sems sig S_).sem

/-- Device `c`'s barrier cell. -/
abbrev barCell (c : Dev nD) : GSem nD τ sig := ((c : Thread nD τ), .reg barS)
/-- Device `c`'s cell of kind `l` for slot `s`. -/
abbrev cell (c : Dev nD) (l : Leg) (s : Fin 4) : GSem nD τ sig := ((c : Thread nD τ), .dma (laneSem l s))

/-- The sixteen transfer semaphores as one family. -/
abbrev osem (p : Leg × Fin 4) : SemLoc sig := .dma (laneSem p.1 p.2)

/-- All seventeen semaphores of a device as one family: the barrier and the sixteen. -/
abbrev place : Unit ⊕ (Leg × Fin 4) → SemLoc sig
  | .inl _ => .reg barS
  | .inr p => osem p

/-- Device `d`'s cell at a place. -/
abbrev spot (p : Dev nD × (Unit ⊕ (Leg × Fin 4))) : GSem nD τ sig := ((p.1 : Thread nD τ), place p.2)

theorem place_injective : Function.Injective place := fun a b => by revert a b; decide

theorem spot_injective : Function.Injective spot := by
  intro p q h
  have h1 : p.1 = q.1 := congrArg (fun g : GSem nD τ sig => g.1.1) h
  have h2 : p.2 = q.2 := place_injective (congrArg Prod.snd h)
  exact Prod.ext h1 h2

/-- Which transfer semaphore a location is, if it is one. -/
def decode (sm : SemLoc sig) : Option (Leg × Fin 4) :=
  ([(.ysend, 0), (.ysend, 1), (.ysend, 2), (.ysend, 3), (.yrecv, 0), (.yrecv, 1), (.yrecv, 2), (.yrecv, 3),
    (.xsend, 0), (.xsend, 1), (.xsend, 2), (.xsend, 3), (.xrecv, 0), (.xrecv, 1), (.xrecv, 2), (.xrecv, 3)] :
      List (Leg × Fin 4)).find? (fun p => decide (osem p = sm))

theorem decode_osem : ∀ p : Leg × Fin 4, decode (osem p) = some p := by decide
theorem decode_lane (l : Leg) (s : Fin 4) : decode (.dma (laneSem l s)) = some (l, s) := decode_osem (l, s)
theorem lane_ne_bar (l : Leg) (s : Fin 4) : (SemLoc.dma (laneSem l s) : SemLoc sig) ≠ .reg barS := fun h => by cases h

/-! ## The schedule -/

variable (m : (ℓ : Loc nD τ sig) → Buf (Elt F) ℓ) (ρ : Dev nD → PrngReg)

/-- What one copy counts on a semaphore. -/
def N : ℕ := (slot sM 0).view.dmaCredit
theorem N_pos : 0 < N := View.dmaCredit_pos _ (by decide)

/-- What a transfer semaphore hands its device when it is waited for. A `y` send gives the staged chunk back; a `y`
    receive gives the neighbour's chunk; an `x` send gives back the half share that was lent; an `x` receive gives the
    chunk the device beside it along `x` had itself received. -/
def handed (c : Dev nD) (s : Fin 4) : Leg → sProp 𝕄
  | .ysend => filled sM c s fullShare (sent m ρ c s)
  | .yrecv => filled yM c s fullShare (sent m ρ (yp c) s)
  | .xsend => filled yM c s fullShare.left (sent m ρ (yp c) s)
  | .xrecv => filled zM c s fullShare (sent m ρ (yp (xp c)) s)

instance handed_storable (c : Dev nD) (s : Fin 4) (l : Leg) : BI.Storable (upEmb : UEmb _ 𝕄) (handed (F := F) m ρ c s l) := by
  cases l <;> (unfold handed; infer_instance)

/-- What a neighbour's barrier signal hands a device: the room its copies to that neighbour will land in. Duty `false` is
    the `y` neighbour's signal, duty `true` the `x` neighbour's. -/
def lent (c : Dev nD) (d : Bool) : sProp 𝕄 := if d then room zM (xp c) else room yM (yp c)

omit [FloatOps F] in
instance lent_storable (c : Dev nD) (d : Bool) : BI.Storable (upEmb : UEmb _ 𝕄) (lent (F := F) c d) := by
  cases d
  · show BI.Storable upEmb (room yM (yp c)); infer_instance
  · show BI.Storable upEmb (room zM (xp c)); infer_instance

/-- What a cell hands over. -/
def pay (g : GSem nD τ sig) (d : Bool) : sProp 𝕄 :=
  if g.2 = .reg barS then lent g.1.1 d else (decode g.2).elim iprop(emp) fun p => handed m ρ g.1.1 p.2 p.1

/-- The schedule. Only round 0 has duties: two of one unit at a barrier cell, one of a copy's credit at a transfer cell. -/
def sched : Rounds.Schedule (GSem nD τ sig) Bool 𝕄 where
  duties g r := if r = 0 ∧ g.1.2 = .tc then (if g.2 = .reg barS then Finset.univ else if (decode g.2).isSome then {false} else ∅) else ∅
  unitless _ := False
  amount g _ _ := if g.2 = .reg barS then 1 else N
  payload g _ d := pay m ρ g d
  amount_pos g _ _ _ := by
    split
    · exact Nat.one_pos
    · exact N_pos

instance sched_storable (g : GSem nD τ sig) (r : ℕ) (d : Bool) : BI.Storable (upEmb : UEmb _ 𝕄) ((sched (F := F) m ρ).payload g r d) := by
  show BI.Storable upEmb (pay m ρ g d)
  unfold pay
  split
  · infer_instance
  · cases decode g.2 <;> (dsimp only [Option.elim]; infer_instance)

section Sched
variable (c : Dev nD) (l : Leg) (s : Fin 4) (d : Bool)

theorem duties_bar : (sched (F := F) m ρ).duties (barCell c) 0 = Finset.univ := by
  dsimp only [sched]; rw [if_pos ⟨rfl, rfl⟩, if_pos rfl]
theorem duties_lane : (sched (F := F) m ρ).duties (cell c l s) 0 = {false} := by
  dsimp only [sched]; rw [if_pos ⟨rfl, rfl⟩, if_neg (lane_ne_bar l s), decode_lane]; rfl
theorem duties_later (g : GSem nD τ sig) : ∀ r, 1 ≤ r → (sched (F := F) m ρ).duties g r = ∅ := fun r hr => by
  dsimp only [sched]; exact if_neg fun h => by omega

theorem amount_bar : (sched (F := F) m ρ).amount (barCell c) 0 d = 1 := by dsimp only [sched]; exact if_pos rfl
theorem amount_lane : (sched (F := F) m ρ).amount (cell c l s) 0 d = N := by dsimp only [sched]; exact if_neg (lane_ne_bar l s)

theorem expect_bar : (sched (F := F) m ρ).expect (barCell c) 0 = 2 := by
  unfold Schedule.expect Schedule.amountOf
  rw [duties_bar, Fintype.sum_bool, amount_bar, amount_bar]
theorem expect_lane : (sched (F := F) m ρ).expect (cell c l s) 0 = N := by
  unfold Schedule.expect Schedule.amountOf
  rw [duties_lane, Finset.sum_singleton, amount_lane]

theorem payload_bar : (sched (F := F) m ρ).payload (barCell c) 0 d = lent c d := by
  show pay m ρ (barCell c) d = _
  unfold pay; exact if_pos rfl
theorem payload_lane : (sched (F := F) m ρ).payload (cell c l s) 0 d = handed m ρ c s l := by
  show pay m ρ (cell c l s) d = _
  unfold pay; rw [if_neg (lane_ne_bar l s), decode_lane]; rfl

/-- A whole barrier round hands over both rooms. -/
theorem all_bar : bigSep ((sched (F := F) m ρ).duties (barCell c) 0 \ ∅) (fun d => (sched (F := F) m ρ).payload (barCell c) 0 d)
    = iprop(room yM (yp c) ∗ room zM (xp c)) := by
  rw [Finset.sdiff_empty, duties_bar, bigSep_univ_eq_bigSepL [false, true] (by decide) (by decide), bigSepL_cons_cons, bigSepL_singleton,
    payload_bar, payload_bar]
  rfl
/-- A whole transfer round hands over its one payload. -/
theorem all_lane : bigSep ((sched (F := F) m ρ).duties (cell c l s) 0 \ ∅) (fun d => (sched (F := F) m ρ).payload (cell c l s) 0 d)
    = handed m ρ c s l := by
  rw [Finset.sdiff_empty, duties_lane, bigSep_singleton, payload_lane]

end Sched

/-! ## What each device owes; the levels -/

/-- Device `c`'s copies still to be issued: along `y` from slot `a` on, along `x` from slot `b` on. -/
def owing (c : Dev nD) (a b : ℕ) : CellTallies nD τ sig Unit :=
  (∑ s : Fin 4 with a ≤ s.val, tallyAt (cell (yp c) .yrecv s) () N) + ∑ s : Fin 4 with b ≤ s.val, tallyAt (cell (xp c) .xrecv s) () N

/-- What device `c` owes at launch: every copy, and a unit on each neighbour's barrier. -/
def owing₀ (c : Dev nD) : CellTallies nD τ sig Unit := owing c 0 0 + tallyAt (barCell (xp c)) () 1 + tallyAt (barCell (yp c)) () 1

theorem from_succ (s : Fin 4) (f : Fin 4 → CellTallies nD τ sig Unit) :
    (∑ t : Fin 4 with s.val ≤ t.val, f t) = (∑ t : Fin 4 with s.val + 1 ≤ t.val, f t) + f s := by
  rw [show (Finset.univ.filter fun t : Fin 4 => s.val ≤ t.val) = insert s (Finset.univ.filter fun t : Fin 4 => s.val + 1 ≤ t.val) from by
    revert s; decide, Finset.sum_insert (by revert s; decide), add_comm]

/-- The `y` copy of slot `s` is the first still owed. -/
theorem owing_y (c : Dev nD) (s : Fin 4) (b : ℕ) : owing c s.val b = owing c (s.val + 1) b + tallyAt (cell (yp c) .yrecv s) () N := by
  unfold owing
  rw [from_succ s, add_assoc, add_assoc, add_comm (tallyAt _ _ _)]
/-- The `x` copy of slot `s` is the first still owed. -/
theorem owing_x (c : Dev nD) (s : Fin 4) (a : ℕ) : owing c a s.val = owing c a (s.val + 1) + tallyAt (cell (xp c) .xrecv s) () N := by
  unfold owing
  rw [from_succ s, add_assoc]
/-- Every copy issued, nothing is owed. -/
theorem owing_done (c : Dev nD) : owing c 4 4 = 0 := by
  unfold owing
  rw [show (Finset.univ.filter fun t : Fin 4 => 4 ≤ t.val) = ∅ from by decide, Finset.sum_empty, Finset.sum_empty, add_zero]

theorem from_pos {f : Fin 4 → GSem nD τ sig} {a : ℕ} {g : GSem nD τ sig} {u : Unit}
    (h : 0 < (∑ s : Fin 4 with a ≤ s.val, tallyAt (Ix := Unit) (f s) () N) g u) : ∃ s : Fin 4, a ≤ s.val ∧ g = f s := by
  rw [Finset.sum_apply, Finsupp.finset_sum_apply] at h
  obtain ⟨s, hs, hne⟩ := Finset.exists_ne_zero_of_sum_ne_zero (Nat.pos_iff_ne_zero.mp h)
  refine ⟨s, (Finset.mem_filter.mp hs).2, ?_⟩
  rw [tallyAt_apply] at hne
  by_contra hg
  exact hne (if_neg fun h' => hg h'.1)

/-- Where a device still owes copies. -/
theorem owing_pos {c : Dev nD} {a b : ℕ} {g : GSem nD τ sig} {u : Unit} (h : 0 < owing c a b g u) :
    (∃ s : Fin 4, a ≤ s.val ∧ g = cell (yp c) .yrecv s) ∨ ∃ s : Fin 4, b ≤ s.val ∧ g = cell (xp c) .xrecv s := by
  unfold owing at h
  rw [Pi.add_apply, Finsupp.add_apply] at h
  rcases Nat.eq_zero_or_pos ((∑ s : Fin 4 with a ≤ s.val, tallyAt (Ix := Unit) (cell (yp c) .yrecv s) () N) g u) with h1 | h1
  · rw [h1, zero_add] at h
    exact .inr (from_pos h)
  · exact .inl (from_pos h1)

theorem owing₀_pos {c : Dev nD} {g : GSem nD τ sig} {u : Unit} (h : 0 < owing₀ c g u) :
    (∃ s : Fin 4, g = cell (yp c) .yrecv s) ∨ (∃ s : Fin 4, g = cell (xp c) .xrecv s) ∨ g = barCell (xp c) ∨ g = barCell (yp c) := by
  unfold owing₀ at h
  rw [Pi.add_apply, Finsupp.add_apply, Pi.add_apply, Finsupp.add_apply, tallyAt_apply, tallyAt_apply] at h
  by_cases hx : g = barCell (xp c)
  · exact .inr (.inr (.inl hx))
  by_cases hy : g = barCell (yp c)
  · exact .inr (.inr (.inr hy))
  rw [if_neg fun h' => hx h'.1, if_neg fun h' => hy h'.1] at h
  rcases owing_pos (by omega : 0 < owing c 0 0 g u) with ⟨s, -, hs⟩ | ⟨s, -, hs⟩
  · exact .inl ⟨s, hs⟩
  · exact .inr (.inl ⟨s, hs⟩)

/-- Every cell of a device's core may be waited for. -/
def waited (g : GSem nD τ sig) : Finset Unit := if g.1.2 = .tc then {()} else ∅

/-- The levels: staging and send cells lowest, then the barrier, then the `y` receives, then the `x` receives. -/
def level (g : GSem nD τ sig) (_ : Unit) : ℕ :=
  if g.2 = .reg barS then 1 else match decode g.2 with | some (.yrecv, _) => 2 | some (.xrecv, _) => 3 | _ => 0

theorem waited_tc (c : Dev nD) (sm : SemLoc sig) : waited ((c : Thread nD τ), sm) = {()} := if_pos rfl
theorem waited_ne (g : GSem nD τ sig) (h : g.1.2 ≠ .tc) : waited g = ∅ := if_neg h
theorem level_bar (c : Dev nD) : level (barCell c) () = 1 := if_pos rfl
theorem level_lane (c : Dev nD) (l : Leg) (s : Fin 4) :
    level (cell c l s) () = match l with | .yrecv => 2 | .xrecv => 3 | _ => 0 := by
  unfold level; rw [if_neg (lane_ne_bar l s), decode_lane]; cases l <;> rfl

omit [FloatOps F] in
/-- A device may wait at a cell below all that it owes. -/
theorem mayWait_below (c : Dev nD) (sm : SemLoc sig) (O : CellTallies nD τ sig Unit) (n : ℕ)
    (hO : ∀ g u, 0 < O g u → waited g = {()} ∧ n < level g u) (hn : level ((c : Thread nD τ), sm) () ≤ n) :
    (levAts waited level : sProp 𝕄) ⊢ MayWait (c : Thread nD τ) sm () O :=
  MayOwe.of_cut (L := waited) (lev := level) n (fun p hp => by rw [Finset.mem_singleton.mp hp, waited_tc]; exact Finset.mem_singleton_self _)
    (fun g u hg => by rw [(hO g u hg).1]; exact Finset.mem_singleton_self _)
    (fun p hp => by rw [Finset.mem_singleton.mp hp]; exact hn)
    (fun g u hg => (hO g u hg).2)

omit [FloatOps F] in
/-- At the barrier a device owes copies only. -/
theorem mayWait_bar (c : Dev nD) (a b : ℕ) : (levAts waited level : sProp 𝕄) ⊢ MayWait (c : Thread nD τ) (.reg barS) () (owing c a b) :=
  mayWait_below c _ _ 1 (fun g u hg => by
    rcases owing_pos hg with ⟨s, -, rfl⟩ | ⟨s, -, rfl⟩
    · exact ⟨waited_tc _ _, by rw [level_lane]; decide⟩
    · exact ⟨waited_tc _ _, by rw [level_lane]; decide⟩) (by rw [level_bar])

omit [FloatOps F] in
/-- At a `y` receive a device owes `x` copies only. -/
theorem mayWait_yrecv (c : Dev nD) (s : Fin 4) (b : ℕ) :
    (levAts waited level : sProp 𝕄) ⊢ MayWait (c : Thread nD τ) (.dma (laneSem .yrecv s)) () (owing c 4 b) :=
  mayWait_below c _ _ 2 (fun g u hg => by
    rcases owing_pos hg with ⟨s, hs, rfl⟩ | ⟨s, -, rfl⟩
    · exact absurd s.isLt (by omega)
    · exact ⟨waited_tc _ _, by rw [level_lane]; decide⟩) (by rw [level_lane])

omit [FloatOps F] in
/-- A device that owes nothing may wait anywhere. -/
theorem mayWait_none (c : Dev nD) (sm : SemLoc sig) : (levAts waited level : sProp 𝕄) ⊢ MayWait (c : Thread nD τ) sm () (owing c 4 4) := by
  rw [owing_done, MayWait_zero]; iintro -; iempintro

omit [FloatOps F] in
/-- The staging pipeline may wait at its own cells, before the body and after it. -/
theorem mayWait_stage (c : Dev nD) (q : DmaSem sig) (hq : decode (.dma q) = none) (O : CellTallies nD τ sig Unit) (hO : O = owing₀ c ∨ O = 0) :
    (levAts waited level : sProp 𝕄) ⊢ MayWait (c : Thread nD τ) (.dma q) () O := by
  rcases hO with rfl | rfl
  · refine mayWait_below c _ _ 0 (fun g u hg => ?_) ?_
    · rcases owing₀_pos hg with ⟨s, rfl⟩ | ⟨s, rfl⟩ | rfl | rfl
      · exact ⟨waited_tc _ _, by rw [level_lane]; decide⟩
      · exact ⟨waited_tc _ _, by rw [level_lane]; decide⟩
      · exact ⟨waited_tc _ _, by rw [level_bar]; decide⟩
      · exact ⟨waited_tc _ _, by rw [level_bar]; decide⟩
    · unfold level; rw [if_neg (fun h => by cases h)]; dsimp only; rw [hq]
  · rw [MayWait_zero]; iintro -; iempintro

/-! ## The ghost state -/

/-- What is known of every cell for good: its invariant, under the name it was allocated at, and that round 0 is reached. -/
def records (K : Dev nD × (Unit ⊕ (Leg × Fin 4)) → ℕ) : sProp 𝕄 :=
  iprop((bigSep Finset.univ fun p => cellInv ER (sched m ρ) (K p) (spot p)) ∗ bigSep Finset.univ fun p => reached ER (spot p) 0)

instance records_persistent (K : Dev nD × (Unit ⊕ (Leg × Fin 4)) → ℕ) : BI.Persistent (records m ρ K) := by unfold records; infer_instance

/-- Any one cell's record. -/
theorem record_at (K : Dev nD × (Unit ⊕ (Leg × Fin 4)) → ℕ) (p : Dev nD × (Unit ⊕ (Leg × Fin 4))) :
    records m ρ K ⊢ iprop(cellInv ER (sched m ρ) (K p) (spot p) ∗ reached ER (spot p) 0) := by
  unfold records
  exact BI.sep_mono (bigSep_elim (Finset.mem_univ p)) (bigSep_elim (Finset.mem_univ p))

/-- The tokens device `c` spends on slot `s`: its two copies, at their sending and at their receiving ends. -/
def dues (c : Dev nD) (s : Fin 4) : sProp 𝕄 :=
  iprop(dutyTok ER (cell c .ysend s) 0 false ∗ dutyTok ER (cell (yp c) .yrecv s) 0 false
    ∗ dutyTok ER (cell c .xsend s) 0 false ∗ dutyTok ER (cell (xp c) .xrecv s) 0 false)

/-- Device `c`'s positions at its four cells of slot `s`. -/
def stands (c : Dev nD) (s : Fin 4) : sProp 𝕄 :=
  iprop(atPos ER (cell c .ysend s) 0 ∅ 0 ∗ atPos ER (cell c .yrecv s) 0 ∅ 0 ∗ atPos ER (cell c .xsend s) 0 ∅ 0 ∗ atPos ER (cell c .xrecv s) 0 ∅ 0)

/-- The credit device `c` holds at launch for slot `s`: the two receives. -/
def claims (c : Dev nD) (s : Fin 4) : sProp 𝕄 :=
  iprop(cred (tallyAt (cell c .yrecv s) () N) ∗ cred (tallyAt (cell c .xrecv s) () N))

/-- What device `c` starts the exchange with and uses up: its barrier position, the two barrier tokens it pays with, and its
    positions and tokens slot by slot. -/
def purse (c : Dev nD) : sProp 𝕄 :=
  iprop((atPos ER (barCell c) 0 ∅ 0 ∗ dutyTok ER (barCell (yp c)) 0 false ∗ dutyTok ER (barCell (xp c)) 0 true)
    ∗ (bigSep Finset.univ fun s => stands c s) ∗ bigSep Finset.univ fun s => dues c s)

end Cert.Exchange

end
-- ==== Proof.Steps.lean ====
/-
# 01_k — the steps of the body

The body repeats a few short sequences of effects once per slot: stage a chunk and send it, wait for a chunk and pass it
on, add a chunk to the own rows, wait for a send. This module proves one rule for each, at any slot.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop bounds are needed. -/
abbrev 𝒱₀ : Variants := Variants.none

/-! ## Reading and writing a slot -/

/-- A load of a slot's rectangle touches the slot's elements only. -/
theorem load_in (b : Memref sig .tc .vmem S4x64x512 .bf16) (s : Fin 4) : b.view.setOn (slotRect s).toLoadRect.set ⊆ (slot b s).view.set := by
  rw [slot_set]; exact subset_rfl

/-- A store to a slot's rectangle touches the slot's elements only. -/
theorem store_in (b : Memref sig .tc .vmem S4x64x512 .bf16) (s : Fin 4) :
    (b.access (slotRect s) : View sig .tc _ _ _).setOn Finset.univ ⊆ (slot b s).view.set := by
  rw [slot_set, View.setOn_univ]
  exact (Finset.subset_of_eq (View.set_slice b.view (slotRect s)))

omit [FloatOps F] in
/-- A slot read as a 64 × 512 chunk is its rectangle read, reshaped. -/
theorem slot_read (b : Memref sig .tc .vmem S4x64x512 .bf16) (s : Fin 4) (f : b.view.ty.Contents (Elt F)) :
    shapeCast S64x512 (b.view.readAt (Elt F) (slotRect s).toLoadRect f) shapeCasts_S1x64x512_S64x512 = (slot b s).view.read (Elt F) f := rfl

omit [FloatOps F] in
/-- A slot just stored holds the stored value, reshaped. -/
theorem slot_stored (b : Memref sig .tc .vmem S4x64x512 .bf16) (s : Fin 4) (f : b.view.ty.Contents (Elt F))
    (w : S1x64x512.Idx → Elt F .bf16) :
    (slot b s).view.read (Elt F) ((b.access (slotRect s) : View sig .tc _ _ _).write (Elt F) f w Finset.univ)
      = shapeCast S64x512 w shapeCasts_S1x64x512_S64x512 := by
  rw [← slot_read]
  refine congrArg (fun v => shapeCast S64x512 v shapeCasts_S1x64x512_S64x512) ?_
  exact View.read_write_univ (v := (b.access (slotRect s) : View sig .tc _ _ _)) f w

/-! ## Held resources the steps share -/

variable (m : (ℓ : Loc nD τ sig) → Buf (Elt F) ℓ) (ρ : Dev nD → PrngReg)

/-- Device `c`'s staged input. -/
def holdsX (c : Dev nD) : sProp 𝕄 := (c : Thread nD τ).loc cc0_stg0_0 ↦{fullShare} xs m ρ c

/-- Device `c` owes `O`, whatever it has waited for. -/
def owesSome (c : Dev nD) (O : CellTallies nD τ sig Unit) : sProp 𝕄 := iprop(∃ W, owes (c : Thread nD τ) O W)

/-- Device `c` runs the program `e`. -/
abbrev runs (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

section Steps

variable (K : Dev nD × (Unit ⊕ (Leg × Fin 4)) → ℕ) (c : Dev nD)

/-- A wait on a transfer semaphore: the cell's payload comes, the cell closes, its counter is zero. -/
theorem wait_lane (l : Leg) (s : Fin 4) (R : sProp 𝕄) (hR : handed m ρ c s l = R) (O : CellTallies nD τ sig Unit)
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α}
    (hw : (levAts waited level : sProp 𝕄) ⊢ MayWait (c : Thread nD τ) (.dma (laneSem l s)) () O) :
    iprop(records m ρ K ∗ levAts waited level ∗ atPos ER (cell c l s) 0 ∅ 0 ∗ cred (tallyAt (cell c l s) () N) ∗ owesSome c O)
      ⊢ iprop(((R ∗ semVal (cell c l s) 0 ∗ owesSome c O) -∗ runs c (k ⟨⟩) Q)
          -∗ runs c (.op (.waitDma2 (laneSem l s) src dst hsrc hdst) k) Q) := by
  unfold owesSome
  iintro ⟨#HR, #HL, Hat, Hc, ⟨%W, Ho⟩⟩ Hk
  ihave HI := (record_at m ρ K (c, .inr (l, s))) $$ HR
  icases HI with ⟨#HI, -⟩
  iapply (Rounds.wp_wait_rest_token 𝒱₀ ER (sched m ρ) (c : Thread nD τ) none (κ := K (c, .inr (l, s)))
      (wpE_waitDma2_eq 𝒱₀ (c : Thread nD τ) none Set.univ) (Set.mem_univ _) () (O := O) (W := W) (R := 0) (m := 0) (T := ∅)
      (by rw [Nat.zero_add, expect_lane]; exact hN)) $$ [Hc Ho Hat]
  · isplitr; · iexact HI
    isplitl [Hc]; · rw [hN]; iexact Hc
    isplitl [Ho]; · iexact Ho
    isplitr; · iapply hw; iexact HL
    iexact Hat
  iintro ⟨Ho, Hat, -, Hp⟩
  ihave Hp := (Entails.of_eq ((all_lane m ρ c l s).trans hR)) $$ Hp
  imod (Rounds.cell_close ER (sched m ρ) (Set.mem_univ (K (c, .inr (l, s)))) (fun h => h) (R := 0 + 1) (duties_later m ρ (cell c l s))) $$ [Hat] with Hz
  · isplitr; · iexact HI
    iexact Hat
  iapply Hk
  isplitl [Hp]; · iexact Hp
  isplitl [Hz]; · iexact Hz
  iexists _; iexact Ho

omit [FloatOps F] in
/-- A slot a copy has landed in holds what was sent. -/
theorem landed (b b' : Memref sig .tc .vmem S4x64x512 .bf16) (d : Dev nD) (s : Fin 4)
    (fd : Buf (Elt F) (b'.view.loc (d : Thread nD τ))) (X : S64x512.Idx → Elt F .bf16) :
    ((slot b' s).view.loc (d : Thread nD τ) ↦[(slot b' s).view.set]{fullShare} ((slot b' s).view.write (Elt F) fd X Finset.univ) : sProp 𝕄)
      ⊢ filled b' d s fullShare X := by
  unfold filled
  iintro H
  iexists ((slot b' s).view.write (Elt F) fd X Finset.univ)
  isplitr
  · ipureintro; exact View.read_write_univ (v := (slot b' s).view) fd X
  iexact H

omit [FloatOps F] in
/-- A slot held at contents that read as `X` is filled with `X`. -/
theorem filled_intro (b : Memref sig .tc .vmem S4x64x512 .bf16) (d : Dev nD) (s : Fin 4) (q : PosShare TreeShare)
    (f : Buf (Elt F) (b.view.loc (d : Thread nD τ))) (X : S64x512.Idx → Elt F .bf16) (h : (slot b s).view.read (Elt F) f = X) :
    (b.view.loc (d : Thread nD τ) ↦[(slot b s).view.set]{q} f : sProp 𝕄) ⊢ filled b d s q X := by
  unfold filled
  iintro H
  iexists _
  isplitr
  · ipureintro; exact h
  iexact H

/-- A copy of slot `s` from `b` to the neighbour's `b'`, between the cells of kinds `l` and `l'`. -/
theorem copy_slot (b b' : Memref sig .tc .vmem S4x64x512 .bf16) (d n : Dev nD) (hn : n = d) (s : Fin 4) (l l' : Leg) (q : PosShare TreeShare)
    (X : S64x512.Idx → Elt F .bf16) (h₁ : handed m ρ c s l = filled b c s q X) (h₂ : handed m ρ d s l' = filled b' d s fullShare X)
    {hsc : (slot b' s).view.ref.isScScratch = false} {hsrc : (slot b s).view.WordExact} {hdst : (slot b' s).view.WordExact}
    {hsem : DmaTarget.Typed .vmem (.dma (laneSem l' s)) (.remote (Dev.tc n : Thread nD τ) (slot b' s) (.dma (laneSem l s)) hsc)}
    (hN : (slot b' s).view.dmaCredit = N) (hr : τ.routes (c : Thread nD τ) (n : Thread nD τ) = true)
    {α : Type} {Q : α → sProp 𝕄} {k : PUnit → Prog (TpuEff nD τ sig (Elt F) Λ₀ .tc) α} (O O' : CellTallies nD τ sig Unit) (hO : O = O' + tallyAt (cell d l' s) () N) :
    iprop(records m ρ K ∗ filled b c s q X ∗ free b' d s ∗ dutyTok ER (cell c l s) 0 false ∗ dutyTok ER (cell d l' s) 0 false ∗ owesSome c O)
      ⊢ iprop(((cred (tallyAt (cell c l s) () N) ∗ owesSome c O') -∗ runs c (k ⟨⟩) Q)
          -∗ runs c (.op (.enqueueDma (slot b s) (.remote (Dev.tc n : Thread nD τ) (slot b' s) (.dma (laneSem l s)) hsc) (.dma (laneSem l' s)) hsrc hdst hsem) k) Q) := by
  subst hn
  unfold owesSome filled free
  iintro ⟨#HR, ⟨%f, %hf, Hs⟩, ⟨%g, Hd⟩, Ht, Ht', ⟨%W, Ho⟩⟩ Hk
  ihave H1 := (record_at m ρ K (c, .inr (l, s))) $$ HR
  icases H1 with ⟨#HI, #Hr⟩
  ihave H2 := (record_at m ρ K (n, .inr (l', s))) $$ HR
  icases H2 with ⟨#HI', #Hr'⟩
  iapply (Rounds.wp_send_pointsTo 𝒱₀ ER (sched m ρ) (c : Thread nD τ) none (c' := (n : Thread nD τ)) (src := slot b s) (dst := slot b' s) (sS := .dma (laneSem l s)) (sem := .dma (laneSem l' s)) (κ₁ := K (c, .inr (l, s))) (κ₂ := K (n, .inr (l', s)))
      (r₁ := 0) (r₂ := 0) (d₁ := false) (d₂ := false) (fs := f) (fd := g) (q := q)
      (by rw [duties_lane]; exact Finset.mem_singleton_self _) (by rw [duties_lane]; exact Finset.mem_singleton_self _)
      () () N hN (amount_lane m ρ c l s false) (amount_lane m ρ n l' s false) O' hO (W := W)
      (by rw [payload_lane, h₁]; exact filled_intro b c s q f X hf)
      (by rw [payload_lane, h₂, hf]; exact landed b b' n s g X) hr) $$ [Hs Hd Ho Ht Ht']
  · isplitr; · iexact HI
    isplitr; · iexact HI'
    isplitl [Hs]; · iexact Hs
    isplitl [Hd]; · iexact Hd
    isplitl [Ho]; · iexact Ho
    isplitl [Ht]; · iexact Ht
    isplitr; · iexact Hr
    isplitl [Ht']; · iexact Ht'
    iexact Hr'
  iintro ⟨Hc, Ho⟩
  iapply Hk
  isplitl [Hc]; · iexact Hc
  iexists W; iexact Ho

/-! ## The output, band by band -/

set_option backward.proofsInPublic true in
/-- Where device `c`'s column block of the input has the output's element `i`. -/
def place3 (c : Dev nD) (i : S512x512.Idx) : S1x512x1024.Idx :=
  ix3 (0 : Fin 1) (i 0) (⟨512 * (c.val % 2) + (i 1).val, by have h : (i 1).val < 512 := (i 1).isLt; omega⟩ : Fin 1024)

/-- The device whose block is added at the output's element `i`: the `y` neighbour in the own half of the rows, its
    counterpart across `x` in the other half. -/
def partner (c : Dev nD) (i : S512x512.Idx) : Dev nD := if (i 0).val / 256 = c.val / 2 then yp c else yp (xp c)

/-- The kernel's result on device `c`: its block of the columns plus the partner's, both extended to 32 bits. -/
def outAt : (cc0_stg1_0 : Ref sig .tc).ty.Contents (Elt F) :=
  (addf (extf .f32 (fun i => xs m ρ c (place3 c i)) bitsLt_bf16_f32) (extf .f32 (fun i => xs m ρ (partner c i) (place3 c i)) bitsLt_bf16_f32) :
    FVec F S512x512 .f32)

/-- The number of the store that writes the output's element `i`: 0 to 3 in the own half, 4 to 7 in the other. -/
def band (c : Dev nD) (i : S512x512.Idx) : ℕ :=
  if (i 0).val / 256 = c.val / 2 then (i 0).val % 256 / 64 else 4 + (i 0).val % 256 / 64

/-- The bands below `n` hold the result. -/
def Good (n : ℕ) (f : (cc0_stg1_0 : Ref sig .tc).ty.Contents (Elt F)) : Prop := ∀ i : S512x512.Idx, band c i < n → f i = outAt m ρ c i

theorem good_zero (f : (cc0_stg1_0 : Ref sig .tc).ty.Contents (Elt F)) : Good m ρ c 0 f := fun i h => absurd h (Nat.not_lt_zero _)

/-- Every band is below 8. -/
theorem good_all (f : (cc0_stg1_0 : Ref sig .tc).ty.Contents (Elt F)) (h : Good m ρ c 8 f) : f = outAt m ρ c :=
  funext fun i => h i (by unfold band; split <;> omega)

/-- The store of band `n` extends the result by it. -/
theorem good_step (n r : ℕ) (off : Fin 2 → ℕ) (inb : ∀ a, off a + S64x512.size a ≤ S512x512.size a) (hoff : off = ![r, 0])
    (f : (cc0_stg1_0 : Ref sig .tc).ty.Contents (Elt F)) (w : S64x512.Idx → Elt F .f32)
    (hb : ∀ i : S512x512.Idx, band c i = n ↔ r ≤ (i 0).val ∧ (i 0).val < r + 64)
    (hw : ∀ (j : S64x512.Idx) (i : S512x512.Idx), (i 0).val = r + (j 0).val → (i 1).val = (j 1).val → w j = outAt m ρ c i)
    (h : Good m ρ c n f) :
    Good m ρ c (n + 1) (((oM : Memref sig .tc .vmem S512x512 .f32).access (Rect.unit (s := S512x512) off S64x512.size inb) : View sig .tc _ _ _).write (Elt F) f w Finset.univ) := by
  subst hoff
  intro i hi
  have h1 : (i 1).val < 512 := (i 1).isLt
  by_cases hn : band c i = n
  · obtain ⟨hl, hu⟩ := (hb i).mp hn
    have he : ((oM : Memref sig .tc .vmem S512x512 .f32).access (Rect.unit (s := S512x512) ![r, 0] S64x512.size inb) : View sig .tc _ _ _).emb
        (ix2 (⟨(i 0).val - r, by omega⟩ : Fin 64) (i 1)) = i := by
      refine funext fun a => Fin.ext ?_
      match a with
      | ⟨0, _⟩ => show r + 1 * ((i 0).val - r) = (i 0).val; omega
      | ⟨1, _⟩ => show 0 + 1 * (i 1).val = (i 1).val; omega
    have hv := View.write_emb_of_mem (Val := Elt F) (v := ((oM : Memref sig .tc .vmem S512x512 .f32).access (Rect.unit (s := S512x512) ![r, 0] S64x512.size inb) : View sig .tc _ _ _)) f w
      (Finset.mem_univ (ix2 (⟨(i 0).val - r, by omega⟩ : Fin 64) (i 1)))
    refine (congrArg (((oM : Memref sig .tc .vmem S512x512 .f32).access (Rect.unit (s := S512x512) ![r, 0] S64x512.size inb) : View sig .tc _ _ _).write (Elt F) f w Finset.univ) he.symm).trans ?_
    exact hv.trans (hw _ i (by show (i 0).val = r + ((i 0).val - r); omega) rfl)
  · refine (View.write_of_not_mem _ _ (M := Finset.univ) ?_).trans (h i (by omega))
    intro hm
    rw [View.setOn_univ, View.set, Finset.mem_map] at hm
    obtain ⟨j, -, hj⟩ := hm
    have h0 : r + 1 * (j 0).val = (i 0).val := congrArg (fun i : S512x512.Idx => (i 0).val) hj
    have hj0 : (j 0).val < 64 := (j 0).isLt
    exact hn ((hb i).mpr ⟨by omega, by omega⟩)

/-- A sum of two pieces that hold the right elements is the result. -/
theorem sum_at (P X : FVec F S64x512 .bf16) (j : S64x512.Idx) (i : S512x512.Idx) (hP : P j = xs m ρ c (place3 c i))
    (hX : X j = xs m ρ (partner c i) (place3 c i)) :
    (addf (extf .f32 P bitsLt_bf16_f32) (extf .f32 X bitsLt_bf16_f32) : FVec F S64x512 .f32) j = outAt m ρ c i := by
  unfold outAt
  simp only [addf, extf, hP, hX]

/-- The stores of the own half: band `s` is the own piece plus what the `y` neighbour sent. -/
theorem good_own (s : Fin 4) (f : (cc0_stg1_0 : Ref sig .tc).ty.Contents (Elt F)) (h : Good m ρ c s.val f) :
    Good m ρ c (s.val + 1) (((oM : Memref sig .tc .vmem S512x512 .f32).access
      (Rect.unit (s := S512x512) (k0_off3 c (BitVec.ofNat 32 (64 * s.val))) S64x512.size (k0_off3_inb c s)) : View sig .tc _ _ _).write (Elt F) f
        (addf (extf .f32 (piece (xs m ρ c) (k0_off2 c (BitVec.ofNat 32 (64 * s.val))) (k0_off2_inb c s)) bitsLt_bf16_f32)
          (extf .f32 (sent m ρ (yp c) s) bitsLt_bf16_f32) : FVec F S64x512 .f32) Finset.univ) := by
  have hs := s.isLt
  have hc := div_le c
  refine good_step m ρ c s.val (256 * (c.val / 2) + 64 * s.val) _ _ (k0_off3_eq c s) f _ (fun i => ?_) (fun j i h0 h1 => ?_) h
  · have hi : (i 0).val < 512 := (i 0).isLt
    unfold band; split <;> omega
  · have hj0 : (j 0).val < 64 := (j 0).isLt
    have hj1 : (j 1).val < 512 := (j 1).isLt
    refine sum_at m ρ c _ _ j i ?_ ?_
    · exact piece_apply _ _ _ _ _ (k0_off2_eq c s) j _ h0 (by show 512 * (c.val % 2) + (i 1).val = _; omega)
    · have hp : partner c i = yp c := if_pos (by omega)
      rw [hp]
      refine piece_apply _ _ _ _ _ (k0_off1_eq (yp c) s) j _ ?_ ?_
      · rw [yp_div]; exact h0
      · rw [yp_mod]; show 512 * (c.val % 2) + (i 1).val = _; omega

/-- The stores of the other half: band `4 + s` is the own piece plus what came along `x`. -/
theorem good_other (s : Fin 4) (f : (cc0_stg1_0 : Ref sig .tc).ty.Contents (Elt F)) (h : Good m ρ c (4 + s.val) f) :
    Good m ρ c (4 + s.val + 1) (((oM : Memref sig .tc .vmem S512x512 .f32).access
      (Rect.unit (s := S512x512) (k0_off5 c (BitVec.ofNat 32 (64 * s.val))) S64x512.size (k0_off5_inb c s)) : View sig .tc _ _ _).write (Elt F) f
        (addf (extf .f32 (piece (xs m ρ c) (k0_off4 c (BitVec.ofNat 32 (64 * s.val))) (k0_off4_inb c s)) bitsLt_bf16_f32)
          (extf .f32 (sent m ρ (yp (xp c)) s) bitsLt_bf16_f32) : FVec F S64x512 .f32) Finset.univ) := by
  have hs := s.isLt
  have hc := div_le c
  refine good_step m ρ c (4 + s.val) ((64 * s.val + 256) - 256 * (c.val / 2)) _ _ (k0_off5_eq c s) f _ (fun i => ?_) (fun j i h0 h1 => ?_) h
  · have hi : (i 0).val < 512 := (i 0).isLt
    unfold band; split <;> omega
  · have hj0 : (j 0).val < 64 := (j 0).isLt
    have hj1 : (j 1).val < 512 := (j 1).isLt
    refine sum_at m ρ c _ _ j i ?_ ?_
    · exact piece_apply _ _ _ _ _ (k0_off4_eq c s) j _ h0 (by show 512 * (c.val % 2) + (i 1).val = _; omega)
    · have hp : partner c i = yp (xp c) := if_neg (by omega)
      rw [hp]
      refine piece_apply _ _ _ _ _ (k0_off1_eq (yp (xp c)) s) j _ ?_ ?_
      · rw [yp_div, xp_div]; show (i 0).val = _; omega
      · rw [yp_mod, xp_mod]; show 512 * (c.val % 2) + (i 1).val = _; omega

/-- Device `c`'s staged output, the bands below `n` done. -/
def partOut (n : ℕ) : sProp 𝕄 :=
  iprop(∃ f : Buf (Elt F) ((c : Thread nD τ).loc cc0_stg1_0), ⌜Good m ρ c n f⌝ ∗ ((c : Thread nD τ).loc cc0_stg1_0 ↦{fullShare} f))

/-! ## The sequences -/

/-- Staging: a piece of the input is copied into a slot. -/
theorem stage_slot (s : Fin 4) (off : Fin 3 → ℕ) (inb : ∀ a, off a + S1x64x512.size a ≤ S1x512x1024.size a)
    {hl : (xM : Memref sig .tc .vmem S1x512x1024 .bf16).view.LoadsAt (Rect.unit (s := S1x512x1024) off S1x64x512.size inb).toLoadRect}
    {hl' : (sM : Memref sig .tc .vmem S4x64x512 .bf16).view.LoadsAt (slotRect s).toLoadRect}
    {hx : ((sM : Memref sig .tc .vmem S4x64x512 .bf16).access (slotRect s) : View sig .tc _ _ _).Stores Finset.univ}
    {hm : Finset.univ = Finset.univ ∨ ∀ a, (slotRect s).stride a = 1}
    (p : Vec F S1x64x512 .bf16 → FVec F S1x64x512 .bf16) (hp : ∀ v, p v = k0_pay1 v)
    {α : Type} {Q : α → sProp 𝕄} {k : PUnit → Prog (TpuEff nD τ sig (Elt F) Λ₀ .tc) α} :
    iprop(holdsX m ρ c ∗ free sM c s)
      ⊢ iprop(((holdsX m ρ c ∗ filled sM c s fullShare (piece (xs m ρ c) off inb)) -∗ runs c (k ⟨⟩) Q)
          -∗ runs c (.op (.load xM (Rect.unit (s := S1x512x1024) off S1x64x512.size inb).toLoadRect hl) fun v =>
              .op (.load sM (slotRect s).toLoadRect hl') fun _ => .op (.store sM (slotRect s) (p v) Finset.univ hx hm) k) Q) := by
  unfold holdsX free
  iintro ⟨Hx, ⟨%f, Hs⟩⟩ Hk
  iapply (wp_load 𝒱₀ (c : Thread nD τ) none Set.univ (m := xM) (Finset.subset_univ _)) $$ Hx; iintro Hx
  iapply (wp_load 𝒱₀ (c : Thread nD τ) none Set.univ (m := sM) (load_in sM s)) $$ Hs; iintro Hs
  iapply (wp_store 𝒱₀ (c : Thread nD τ) none Set.univ (m := sM) (r := slotRect s) (Mk := Finset.univ) (store_in sM s)) $$ Hs; iintro Hs
  iapply Hk
  isplitl [Hx]; · iexact Hx
  iapply (filled_intro sM c s fullShare _ (piece (xs m ρ c) off inb) ?_) $$ Hs
  rw [slot_stored, hp]
  unfold k0_pay1
  rw [shapeCast_shapeCast]
  rfl

/-- Adding: a piece of the input and a slot's chunk are added into a band of the output. -/
theorem add_slot (b : Memref sig .tc .vmem S4x64x512 .bf16) (s : Fin 4) (q : PosShare TreeShare) (X : S64x512.Idx → Elt F .bf16) (n : ℕ)
    (off : Fin 3 → ℕ) (inb : ∀ a, off a + S1x64x512.size a ≤ S1x512x1024.size a) (off' : Fin 2 → ℕ) (inb' : ∀ a, off' a + S64x512.size a ≤ S512x512.size a)
    (hg : ∀ f, Good m ρ c n f → Good m ρ c (n + 1) (((oM : Memref sig .tc .vmem S512x512 .f32).access
      (Rect.unit (s := S512x512) off' S64x512.size inb') : View sig .tc _ _ _).write (Elt F) f
        (addf (extf .f32 (piece (xs m ρ c) off inb) bitsLt_bf16_f32) (extf .f32 X bitsLt_bf16_f32) : FVec F S64x512 .f32) Finset.univ))
    {hl : (xM : Memref sig .tc .vmem S1x512x1024 .bf16).view.LoadsAt (Rect.unit (s := S1x512x1024) off S1x64x512.size inb).toLoadRect}
    {hl' : b.view.LoadsAt (slotRect s).toLoadRect}
    {hl'' : (oM : Memref sig .tc .vmem S512x512 .f32).view.LoadsAt (Rect.unit (s := S512x512) off' S64x512.size inb').toLoadRect}
    {hx : ((oM : Memref sig .tc .vmem S512x512 .f32).access (Rect.unit (s := S512x512) off' S64x512.size inb') : View sig .tc _ _ _).Stores Finset.univ}
    {hm : Finset.univ = Finset.univ ∨ ∀ a, (Rect.unit (s := S512x512) off' S64x512.size inb').stride a = 1}
    (p : Vec F S1x64x512 .bf16 → Vec F S1x64x512 .bf16 → FVec F S64x512 .f32) (hp : ∀ v w, p v w = k0_pay5 v w)
    {α : Type} {Q : α → sProp 𝕄} {k : PUnit → Prog (TpuEff nD τ sig (Elt F) Λ₀ .tc) α} :
    iprop(holdsX m ρ c ∗ partOut m ρ c n ∗ filled b c s q X)
      ⊢ iprop(((holdsX m ρ c ∗ partOut m ρ c (n + 1) ∗ filled b c s q X) -∗ runs c (k ⟨⟩) Q)
          -∗ runs c (.op (.load xM (Rect.unit (s := S1x512x1024) off S1x64x512.size inb).toLoadRect hl) fun v =>
              .op (.load b (slotRect s).toLoadRect hl') fun w =>
              .op (.load oM (Rect.unit (s := S512x512) off' S64x512.size inb').toLoadRect hl'') fun _ =>
              .op (.store oM (Rect.unit (s := S512x512) off' S64x512.size inb') (p v w) Finset.univ hx hm) k) Q) := by
  unfold holdsX partOut filled
  iintro ⟨Hx, ⟨%g, %hgd, Ho⟩, ⟨%f, %hf, Hs⟩⟩ Hk
  iapply (wp_load 𝒱₀ (c : Thread nD τ) none Set.univ (m := xM) (Finset.subset_univ _)) $$ Hx; iintro Hx
  iapply (wp_load 𝒱₀ (c : Thread nD τ) none Set.univ (m := b) (load_in b s)) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := Rect.unit (s := S512x512) off' S64x512.size inb') (Mk := Finset.univ) (Finset.subset_univ _)) $$ Ho; iintro Ho
  iapply Hk
  isplitl [Hx]; · iexact Hx
  isplitl [Ho]
  · iexists _
    isplitr; rotate_left; · iexact Ho
    ipureintro
    subst hf
    rw [hp]
    exact hg g hgd
  iexists f
  isplitr; · ipureintro; exact hf
  iexact Hs

end Steps

end Cert.Exchange

end
-- ==== Proof.Moves.lean ====
/-
# 01_k — a slot from start to end

What a device holds of one slot changes five times: the slot is new, sent, passed on, taken, done. This module names the
five states and proves, for the effects that lie between two of them, that they lead from one to the next.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A slot's life -/

/-- Before anything: the slot's three places are free, its positions, tokens and credit unspent. -/
def slotNew (c : Dev nD) (s : Fin 4) : sProp 𝕄 :=
  iprop(free sM c s ∗ free yM (yp c) s ∗ free zM (xp c) s ∗ dues c s ∗ stands c s ∗ claims c s)

/-- The `y` copy is on its way. -/
def slotSent (c : Dev nD) (s : Fin 4) : sProp 𝕄 :=
  iprop(cred (tallyAt (cell c .ysend s) () N) ∗ free zM (xp c) s
    ∗ (dutyTok ER (cell c .xsend s) 0 false ∗ dutyTok ER (cell (xp c) .xrecv s) 0 false) ∗ stands c s ∗ claims c s)

/-- The neighbour's chunk has come and is on its way along `x`; half a share of it is kept to read. -/
def slotPassed (c : Dev nD) (s : Fin 4) : sProp 𝕄 :=
  iprop(cred (tallyAt (cell c .ysend s) () N) ∗ cred (tallyAt (cell c .xsend s) () N) ∗ filled yM c s fullShare.right (sent m ρ (yp c) s)
    ∗ semVal (cell c .yrecv s) 0 ∗ atPos ER (cell c .ysend s) 0 ∅ 0 ∗ atPos ER (cell c .xsend s) 0 ∅ 0
    ∗ atPos ER (cell c .xrecv s) 0 ∅ 0 ∗ cred (tallyAt (cell c .xrecv s) () N))

/-- The chunk from along `x` has come too. -/
def slotTaken (c : Dev nD) (s : Fin 4) : sProp 𝕄 :=
  iprop(cred (tallyAt (cell c .ysend s) () N) ∗ cred (tallyAt (cell c .xsend s) () N) ∗ filled yM c s fullShare.right (sent m ρ (yp c) s)
    ∗ semVal (cell c .yrecv s) 0 ∗ atPos ER (cell c .ysend s) 0 ∅ 0 ∗ atPos ER (cell c .xsend s) 0 ∅ 0
    ∗ filled zM c s fullShare (sent m ρ (yp (xp c)) s) ∗ semVal (cell c .xrecv s) 0)

/-- All is done: the slot's three places are the device's own again, the four counters zero. -/
def slotDone (c : Dev nD) (s : Fin 4) : sProp 𝕄 :=
  iprop(free sM c s ∗ free yM c s ∗ free zM c s
    ∗ (semVal (cell c .ysend s) 0 ∗ semVal (cell c .yrecv s) 0 ∗ semVal (cell c .xsend s) 0 ∗ semVal (cell c .xrecv s) 0))

/-- What every step keeps: the staged input, the output with `n` bands done, and what is owed. -/
def desk (c : Dev nD) (n : ℕ) (O : CellTallies nD τ sig Unit) : sProp 𝕄 := iprop(holdsX m ρ c ∗ partOut m ρ c n ∗ owesSome c O)

section Moves

variable (K : Dev nD × (Unit ⊕ (Leg × Fin 4)) → ℕ) (c : Dev nD)

/-- What is known for good: the cells' records and the levels. -/
def known : sProp 𝕄 := iprop(records m ρ K ∗ levAts waited level)

instance known_persistent : BI.Persistent (known m ρ K) := by unfold known; infer_instance

/-- Stage chunk `s` and send it to the `y` neighbour. -/
theorem move_send (d : Dev nD) (hd : d = yp c) (s : Fin 4) (b n : ℕ)
    {hl : (xM : Memref sig .tc .vmem S1x512x1024 .bf16).view.LoadsAt
      (Rect.unit (s := S1x512x1024) (k0_off1 c (BitVec.ofNat 32 (64 * s.val))) S1x64x512.size (k0_off1_inb c s)).toLoadRect}
    {hl' : (sM : Memref sig .tc .vmem S4x64x512 .bf16).view.LoadsAt (slotRect s).toLoadRect}
    {hx : ((sM : Memref sig .tc .vmem S4x64x512 .bf16).access (slotRect s) : View sig .tc _ _ _).Stores Finset.univ}
    {hm : Finset.univ = Finset.univ ∨ ∀ a, (slotRect s).stride a = 1}
    {hsc : (slot yM s).view.ref.isScScratch = false} {hsrc : (slot sM s).view.WordExact} {hdst : (slot yM s).view.WordExact}
    {hsem : DmaTarget.Typed .vmem (.dma (laneSem .yrecv s)) (.remote (Dev.tc d : Thread nD τ) (slot yM s) (.dma (laneSem .ysend s)) hsc)}
    (p : Vec F S1x64x512 .bf16 → FVec F S1x64x512 .bf16) (hp : ∀ v, p v = k0_pay1 v)
    {α : Type} {Q : α → sProp 𝕄} {k : PUnit → Prog (TpuEff nD τ sig (Elt F) Λ₀ .tc) α} :
    iprop(known m ρ K ∗ desk m ρ c n (owing c s.val b) ∗ slotNew c s)
      ⊢ iprop(((desk m ρ c n (owing c (s.val + 1) b) ∗ slotSent c s) -∗ runs c (k ⟨⟩) Q)
          -∗ runs c (.op (.load xM (Rect.unit (s := S1x512x1024) (k0_off1 c (BitVec.ofNat 32 (64 * s.val))) S1x64x512.size (k0_off1_inb c s)).toLoadRect hl) fun v =>
              .op (.load sM (slotRect s).toLoadRect hl') fun _ => .op (.store sM (slotRect s) (p v) Finset.univ hx hm) fun _ =>
              .op (.enqueueDma (slot sM s) (.remote (Dev.tc d : Thread nD τ) (slot yM s) (.dma (laneSem .ysend s)) hsc) (.dma (laneSem .yrecv s)) hsrc hdst hsem) k) Q) := by
  unfold known desk slotNew dues slotSent
  iintro ⟨⟨#HR, #HL⟩, ⟨Hx, Ho, HO⟩, Hs, Hy, Hz, ⟨Ht1, Ht2, Ht3, Ht4⟩, Hat, Hc⟩ Hk
  iapply (stage_slot m ρ c s _ (k0_off1_inb c s) p hp) $$ [Hx Hs]
  · isplitl [Hx] <;> iassumption
  iintro ⟨Hx, Hs⟩
  iapply (copy_slot m ρ K c sM yM (yp c) d hd s .ysend .yrecv fullShare (sent m ρ c s) rfl (by unfold handed; rw [yp_yp]) rfl
      (by subst hd; routes) (owing c s.val b) (owing c (s.val + 1) b) (owing_y c s b)) $$ [Hs Hy Ht1 Ht2 HO]
  · isplitr; · iexact HR
    isplitl [Hs]; · unfold sent; iexact Hs
    isplitl [Hy]; · iexact Hy
    isplitl [Ht1]; · iexact Ht1
    isplitl [Ht2] <;> iassumption
  iintro ⟨Hc1, HO⟩
  iapply Hk
  isplitl [Hx Ho HO]
  · isplitl [Hx]; · iexact Hx
    isplitl [Ho] <;> iassumption
  isplitl [Hc1]; · iexact Hc1
  isplitl [Hz]; · iexact Hz
  isplitl [Ht3 Ht4]
  · isplitl [Ht3] <;> iassumption
  isplitl [Hat] <;> iassumption

/-- Wait for the `y` neighbour's chunk `s` and pass it on along `x`, keeping half a share. -/
theorem move_pass (d : Dev nD) (hd : d = xp c) (s : Fin 4) (n : ℕ)
    {src dst : Memref sig .tc .vmem S64x512 .bf16} {hw₁ : src.view.WordExact} {hw₂ : dst.view.WordExact} (hN : dst.view.dmaCredit = N)
    {hsc : (slot zM s).view.ref.isScScratch = false} {hsrc : (slot yM s).view.WordExact} {hdst : (slot zM s).view.WordExact}
    {hsem : DmaTarget.Typed .vmem (.dma (laneSem .xrecv s)) (.remote (Dev.tc d : Thread nD τ) (slot zM s) (.dma (laneSem .xsend s)) hsc)}
    {α : Type} {Q : α → sProp 𝕄} {k : PUnit → Prog (TpuEff nD τ sig (Elt F) Λ₀ .tc) α} :
    iprop(known m ρ K ∗ desk m ρ c n (owing c 4 s.val) ∗ slotSent c s)
      ⊢ iprop(((desk m ρ c n (owing c 4 (s.val + 1)) ∗ slotPassed m ρ c s) -∗ runs c (k ⟨⟩) Q)
          -∗ runs c (.op (.waitDma2 (laneSem .yrecv s) src dst hw₁ hw₂) fun _ =>
              .op (.enqueueDma (slot yM s) (.remote (Dev.tc d : Thread nD τ) (slot zM s) (.dma (laneSem .xsend s)) hsc) (.dma (laneSem .xrecv s)) hsrc hdst hsem) k) Q) := by
  unfold known desk slotSent stands claims slotPassed
  iintro ⟨⟨#HR, #HL⟩, ⟨Hx, Ho, HO⟩, Hc1, Hz, ⟨Ht3, Ht4⟩, ⟨Hp1, Hp2, Hp3, Hp4⟩, Hc2, Hc4⟩ Hk
  iapply (wait_lane m ρ K c .yrecv s (filled yM c s fullShare (sent m ρ (yp c) s)) rfl (owing c 4 s.val) hN (mayWait_yrecv c s s.val)) $$ [Hp2 Hc2 HO]
  · isplitr; · iexact HR
    isplitr; · iexact HL
    isplitl [Hp2]; · iexact Hp2
    isplitl [Hc2] <;> iassumption
  iintro ⟨Hy, Hv2, HO⟩
  ihave Hy := (filled_halves yM c s (sent m ρ (yp c) s)) $$ Hy
  icases Hy with ⟨Hyl, Hyr⟩
  iapply (copy_slot m ρ K c yM zM (xp c) d hd s .xsend .xrecv fullShare.left (sent m ρ (yp c) s) rfl (by unfold handed; rw [xp_xp]) rfl
      (by subst hd; routes) (owing c 4 s.val) (owing c 4 (s.val + 1)) (owing_x c s 4)) $$ [Hyl Hz Ht3 Ht4 HO]
  · isplitr; · iexact HR
    isplitl [Hyl]; · iexact Hyl
    isplitl [Hz]; · iexact Hz
    isplitl [Ht3]; · iexact Ht3
    isplitl [Ht4] <;> iassumption
  iintro ⟨Hc3, HO⟩
  iapply Hk
  isplitl [Hx Ho HO]
  · isplitl [Hx]; · iexact Hx
    isplitl [Ho] <;> iassumption
  isplitl [Hc1]; · iexact Hc1
  isplitl [Hc3]; · iexact Hc3
  isplitl [Hyr]; · iexact Hyr
  isplitl [Hv2]; · iexact Hv2
  isplitl [Hp1]; · iexact Hp1
  isplitl [Hp3]; · iexact Hp3
  isplitl [Hp4] <;> iassumption

/-- Add the `y` neighbour's chunk `s` to the own half of the rows. -/
theorem move_own (s : Fin 4) (O : CellTallies nD τ sig Unit)
    {hl : (xM : Memref sig .tc .vmem S1x512x1024 .bf16).view.LoadsAt
      (Rect.unit (s := S1x512x1024) (k0_off2 c (BitVec.ofNat 32 (64 * s.val))) S1x64x512.size (k0_off2_inb c s)).toLoadRect}
    {hl' : (yM : Memref sig .tc .vmem S4x64x512 .bf16).view.LoadsAt (slotRect s).toLoadRect}
    {hl'' : (oM : Memref sig .tc .vmem S512x512 .f32).view.LoadsAt
      (Rect.unit (s := S512x512) (k0_off3 c (BitVec.ofNat 32 (64 * s.val))) S64x512.size (k0_off3_inb c s)).toLoadRect}
    {hx : ((oM : Memref sig .tc .vmem S512x512 .f32).access
      (Rect.unit (s := S512x512) (k0_off3 c (BitVec.ofNat 32 (64 * s.val))) S64x512.size (k0_off3_inb c s)) : View sig .tc _ _ _).Stores Finset.univ}
    {hm : Finset.univ = Finset.univ ∨ ∀ a, (Rect.unit (s := S512x512) (k0_off3 c (BitVec.ofNat 32 (64 * s.val))) S64x512.size (k0_off3_inb c s)).stride a = 1}
    (p : Vec F S1x64x512 .bf16 → Vec F S1x64x512 .bf16 → FVec F S64x512 .f32) (hp : ∀ v w, p v w = k0_pay5 v w)
    {α : Type} {Q : α → sProp 𝕄} {k : PUnit → Prog (TpuEff nD τ sig (Elt F) Λ₀ .tc) α} :
    iprop(desk m ρ c s.val O ∗ slotPassed m ρ c s)
      ⊢ iprop(((desk m ρ c (s.val + 1) O ∗ slotPassed m ρ c s) -∗ runs c (k ⟨⟩) Q)
          -∗ runs c (.op (.load xM (Rect.unit (s := S1x512x1024) (k0_off2 c (BitVec.ofNat 32 (64 * s.val))) S1x64x512.size (k0_off2_inb c s)).toLoadRect hl) fun v =>
              .op (.load yM (slotRect s).toLoadRect hl') fun w =>
              .op (.load oM (Rect.unit (s := S512x512) (k0_off3 c (BitVec.ofNat 32 (64 * s.val))) S64x512.size (k0_off3_inb c s)).toLoadRect hl'') fun _ =>
              .op (.store oM (Rect.unit (s := S512x512) (k0_off3 c (BitVec.ofNat 32 (64 * s.val))) S64x512.size (k0_off3_inb c s)) (p v w) Finset.univ hx hm) k) Q) := by
  unfold desk slotPassed
  iintro ⟨⟨Hx, Ho, HO⟩, Hc1, Hc3, Hy, Hrest⟩ Hk
  iapply (add_slot m ρ c yM s fullShare.right (sent m ρ (yp c) s) s.val _ (k0_off2_inb c s) _ (k0_off3_inb c s) (good_own m ρ c s) p hp) $$ [Hx Ho Hy]
  · isplitl [Hx]; · iexact Hx
    isplitl [Ho] <;> iassumption
  iintro ⟨Hx, Ho, Hy⟩
  iapply Hk
  isplitl [Hx Ho HO]
  · isplitl [Hx]; · iexact Hx
    isplitl [Ho] <;> iassumption
  isplitl [Hc1]; · iexact Hc1
  isplitl [Hc3]; · iexact Hc3
  isplitl [Hy] <;> iassumption

/-- Wait for the chunk `s` from along `x` and add it to the other half of the rows. -/
theorem move_take (s : Fin 4)
    {src dst : Memref sig .tc .vmem S64x512 .bf16} {hw₁ : src.view.WordExact} {hw₂ : dst.view.WordExact} (hN : dst.view.dmaCredit = N)
    {hl : (xM : Memref sig .tc .vmem S1x512x1024 .bf16).view.LoadsAt
      (Rect.unit (s := S1x512x1024) (k0_off4 c (BitVec.ofNat 32 (64 * s.val))) S1x64x512.size (k0_off4_inb c s)).toLoadRect}
    {hl' : (zM : Memref sig .tc .vmem S4x64x512 .bf16).view.LoadsAt (slotRect s).toLoadRect}
    {hl'' : (oM : Memref sig .tc .vmem S512x512 .f32).view.LoadsAt
      (Rect.unit (s := S512x512) (k0_off5 c (BitVec.ofNat 32 (64 * s.val))) S64x512.size (k0_off5_inb c s)).toLoadRect}
    {hx : ((oM : Memref sig .tc .vmem S512x512 .f32).access
      (Rect.unit (s := S512x512) (k0_off5 c (BitVec.ofNat 32 (64 * s.val))) S64x512.size (k0_off5_inb c s)) : View sig .tc _ _ _).Stores Finset.univ}
    {hm : Finset.univ = Finset.univ ∨ ∀ a, (Rect.unit (s := S512x512) (k0_off5 c (BitVec.ofNat 32 (64 * s.val))) S64x512.size (k0_off5_inb c s)).stride a = 1}
    (p : Vec F S1x64x512 .bf16 → Vec F S1x64x512 .bf16 → FVec F S64x512 .f32) (hp : ∀ v w, p v w = k0_pay5 v w)
    {α : Type} {Q : α → sProp 𝕄} {k : PUnit → Prog (TpuEff nD τ sig (Elt F) Λ₀ .tc) α} :
    iprop(known m ρ K ∗ desk m ρ c (4 + s.val) (owing c 4 4) ∗ slotPassed m ρ c s)
      ⊢ iprop(((desk m ρ c (4 + s.val + 1) (owing c 4 4) ∗ slotTaken m ρ c s) -∗ runs c (k ⟨⟩) Q)
          -∗ runs c (.op (.waitDma2 (laneSem .xrecv s) src dst hw₁ hw₂) fun _ =>
              .op (.load xM (Rect.unit (s := S1x512x1024) (k0_off4 c (BitVec.ofNat 32 (64 * s.val))) S1x64x512.size (k0_off4_inb c s)).toLoadRect hl) fun v =>
              .op (.load zM (slotRect s).toLoadRect hl') fun w =>
              .op (.load oM (Rect.unit (s := S512x512) (k0_off5 c (BitVec.ofNat 32 (64 * s.val))) S64x512.size (k0_off5_inb c s)).toLoadRect hl'') fun _ =>
              .op (.store oM (Rect.unit (s := S512x512) (k0_off5 c (BitVec.ofNat 32 (64 * s.val))) S64x512.size (k0_off5_inb c s)) (p v w) Finset.univ hx hm) k) Q) := by
  unfold known desk slotPassed slotTaken
  iintro ⟨⟨#HR, #HL⟩, ⟨Hx, Ho, HO⟩, Hc1, Hc3, Hy, Hv2, Hp1, Hp3, Hp4, Hc4⟩ Hk
  iapply (wait_lane m ρ K c .xrecv s (filled zM c s fullShare (sent m ρ (yp (xp c)) s)) rfl (owing c 4 4) hN (mayWait_none c _)) $$ [Hp4 Hc4 HO]
  · isplitr; · iexact HR
    isplitr; · iexact HL
    isplitl [Hp4]; · iexact Hp4
    isplitl [Hc4] <;> iassumption
  iintro ⟨Hz, Hv4, HO⟩
  iapply (add_slot m ρ c zM s fullShare (sent m ρ (yp (xp c)) s) (4 + s.val) _ (k0_off4_inb c s) _ (k0_off5_inb c s) (good_other m ρ c s) p hp) $$ [Hx Ho Hz]
  · isplitl [Hx]; · iexact Hx
    isplitl [Ho] <;> iassumption
  iintro ⟨Hx, Ho, Hz⟩
  iapply Hk
  isplitl [Hx Ho HO]
  · isplitl [Hx]; · iexact Hx
    isplitl [Ho] <;> iassumption
  isplitl [Hc1]; · iexact Hc1
  isplitl [Hc3]; · iexact Hc3
  isplitl [Hy]; · iexact Hy
  isplitl [Hv2]; · iexact Hv2
  isplitl [Hp1]; · iexact Hp1
  isplitl [Hp3]; · iexact Hp3
  isplitl [Hz] <;> iassumption

/-- Wait for the two sends of slot `s`. -/
theorem move_settle (s : Fin 4) (n : ℕ)
    {src dst : Memref sig .tc .vmem S64x512 .bf16} {hw₁ : src.view.WordExact} {hw₂ : dst.view.WordExact} (hN : dst.view.dmaCredit = N)
    {src' dst' : Memref sig .tc .vmem S64x512 .bf16} {hw₁' : src'.view.WordExact} {hw₂' : dst'.view.WordExact} (hN' : dst'.view.dmaCredit = N)
    {α : Type} {Q : α → sProp 𝕄} {k : PUnit → Prog (TpuEff nD τ sig (Elt F) Λ₀ .tc) α} :
    iprop(known m ρ K ∗ desk m ρ c n (owing c 4 4) ∗ slotTaken m ρ c s)
      ⊢ iprop(((desk m ρ c n (owing c 4 4) ∗ slotDone c s) -∗ runs c (k ⟨⟩) Q)
          -∗ runs c (.op (.waitDma2 (laneSem .ysend s) src dst hw₁ hw₂) fun _ => .op (.waitDma2 (laneSem .xsend s) src' dst' hw₁' hw₂') k) Q) := by
  unfold known desk slotTaken slotDone
  iintro ⟨⟨#HR, #HL⟩, ⟨Hx, Ho, HO⟩, Hc1, Hc3, Hy, Hv2, Hp1, Hp3, Hz, Hv4⟩ Hk
  iapply (wait_lane m ρ K c .ysend s (filled sM c s fullShare (sent m ρ c s)) rfl (owing c 4 4) hN (mayWait_none c _)) $$ [Hp1 Hc1 HO]
  · isplitr; · iexact HR
    isplitr; · iexact HL
    isplitl [Hp1]; · iexact Hp1
    isplitl [Hc1] <;> iassumption
  iintro ⟨Hs, Hv1, HO⟩
  iapply (wait_lane m ρ K c .xsend s (filled yM c s fullShare.left (sent m ρ (yp c) s)) rfl (owing c 4 4) hN' (mayWait_none c _)) $$ [Hp3 Hc3 HO]
  · isplitr; · iexact HR
    isplitr; · iexact HL
    isplitl [Hp3]; · iexact Hp3
    isplitl [Hc3] <;> iassumption
  iintro ⟨Hyl, Hv3, HO⟩
  iapply Hk
  isplitl [Hx Ho HO]
  · isplitl [Hx]; · iexact Hx
    isplitl [Ho] <;> iassumption
  isplitl [Hs]; · iapply (filled_free sM c s (sent m ρ c s)) $$ Hs
  isplitl [Hyl Hy]
  · iapply (halves_free yM c s (sent m ρ (yp c) s) (sent m ρ (yp c) s))
    isplitl [Hyl] <;> iassumption
  isplitl [Hz]; · iapply (filled_free zM c s (sent m ρ (yp (xp c)) s)) $$ Hz
  isplitl [Hv1]; · iexact Hv1
  isplitl [Hv2]; · iexact Hv2
  isplitl [Hv3] <;> iassumption

end Moves

end Cert.Exchange

end
-- ==== Proof.Body.lean ====
/-
# 01_k — the body

A device's body runs from what it is given at launch to its result: the barrier with both neighbours, then each slot from
new to done, one rule per sequence of effects in program order.
-/
module

public import proofs.«01_k».proof.Proof.Moves
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- The four slots of a family, one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What a device's body starts from besides its scratch buffers: its purse, its credit, the levels. -/
def start (c : Dev nD) : sProp 𝕄 :=
  iprop((∃ K, records m ρ K ∗ purse c) ∗ (cred (tallyAt (barCell c) () 2) ∗ bigSep Finset.univ fun s => claims c s) ∗ levAts waited level)

/-- The three scratch buffers of a device. -/
def rooms (c : Dev nD) : sProp 𝕄 := iprop(room sM c ∗ room yM c ∗ room zM c)

/-- The counters of a device's four semaphores of slot `s`, all zero. -/
def quiet (c : Dev nD) (s : Fin 4) : sProp 𝕄 :=
  iprop(semVal (cell c .ysend s) 0 ∗ semVal (cell c .yrecv s) 0 ∗ semVal (cell c .xsend s) 0 ∗ semVal (cell c .xrecv s) 0)

/-- Before the body. -/
def phiIn (c : Dev nD) : sProp 𝕄 := iprop(start m ρ c ∗ rooms c)
/-- After the body: the scratch buffers again, every counter zero. -/
def phiOut (c : Dev nD) : sProp 𝕄 := iprop(rooms c ∗ semVal (barCell c) 0 ∗ bigSep Finset.univ fun s => quiet c s)

/-- The staging pipeline's data: the arrays at launch, what the two windows hold after the body, what is owed. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m ρ c
    | ⟨1, _⟩ => outAt m ρ c
  Φ t := match t with
    | ⟨0, _⟩ => phiIn m ρ c
    | ⟨_ + 1, _⟩ => phiOut c
  q _ := fullShare
  owed t := match t with
    | ⟨0, _⟩ => owing₀ c
    | ⟨_ + 1, _⟩ => 0

theorem one_point : cfg0.N = 1 := by decide
/-- The one point of the grid. -/
def t₀ : Fin cfg0.N := ⟨0, by rw [one_point]; decide⟩
theorem only_t₀ (t : Fin cfg0.N) : t = t₀ := Fin.ext (Nat.lt_one_iff.mp (lt_of_lt_of_eq t.isLt one_point))

omit [FloatOps F] in
/-- A whole staging buffer owned at `X` is its memory at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The barrier -/

section Barrier

variable (K : Dev nD × (Unit ⊕ (Leg × Fin 4)) → ℕ) (c : Dev nD)

/-- A signal to a neighbour's barrier, with the room lent to it. -/
theorem signal_bar (d n : Dev nD) (hn : n = d) (b : Bool) (R : sProp 𝕄) (hR : lent d b = R) (O O' : CellTallies nD τ sig Unit)
    (hO : O = O' + tallyAt (barCell d) () 1) (hr : τ.routes (c : Thread nD τ) (n : Thread nD τ) = true) (a : ℕ) (ha : a = 1)
    {α : Type} {Q : α → sProp 𝕄} {k : PUnit → Prog (TpuEff nD τ sig (Elt F) Λ₀ .tc) α} :
    iprop(records m ρ K ∗ dutyTok ER (barCell d) 0 b ∗ R ∗ owesSome c O)
      ⊢ iprop((owesSome c O' -∗ runs c (k ⟨⟩) Q) -∗ runs c (.op (.semSignal (n : Thread nD τ) barS a) k) Q) := by
  subst hn ha
  unfold owesSome
  iintro ⟨#HR, Ht, HP, ⟨%W, HO⟩⟩ Hk
  ihave H := (record_at m ρ K (n, .inl ())) $$ HR
  icases H with ⟨#HI, #Hr⟩
  iapply (Rounds.wp_signal 𝒱₀ ER (sched m ρ) (c : Thread nD τ) none (dst := (n : Thread nD τ)) (κ := K (n, .inl ())) (d := b)
      (by rw [duties_bar]; exact Finset.mem_univ _) (amount_bar m ρ n b) () O' hO (W := W) (hr := hr)) $$ [Ht HP HO]
  · isplitr; · iexact HI
    isplitl [HO]; · iexact HO
    isplitl [Ht]; · iexact Ht
    isplitl [HP]; · rw [payload_bar, hR]; iexact HP
    iexact Hr
  iintro HO
  iapply Hk
  iexists W; iexact HO

/-- The wait at the own barrier: both neighbours' rooms come, and the cell closes. -/
theorem wait_bar (a : ℕ) (ha : a = 2)
    {α : Type} {Q : α → sProp 𝕄} {k : PUnit → Prog (TpuEff nD τ sig (Elt F) Λ₀ .tc) α} :
    iprop(records m ρ K ∗ levAts waited level ∗ atPos ER (barCell c) 0 ∅ 0 ∗ cred (tallyAt (barCell c) () 2) ∗ owesSome c (owing c 0 0))
      ⊢ iprop((((room yM (yp c) ∗ room zM (xp c)) ∗ semVal (barCell c) 0 ∗ owesSome c (owing c 0 0)) -∗ runs c (k ⟨⟩) Q)
          -∗ runs c (.op (.semWait barS a) k) Q) := by
  subst ha
  unfold owesSome
  iintro ⟨#HR, #HL, Hat, Hc, ⟨%W, HO⟩⟩ Hk
  ihave H := (record_at m ρ K (c, .inl ())) $$ HR
  icases H with ⟨#HI, -⟩
  iapply (Rounds.wp_wait_rest_token 𝒱₀ ER (sched m ρ) (c : Thread nD τ) none (κ := K (c, .inl ()))
      (wpE_semWait_eq 𝒱₀ (c : Thread nD τ) none Set.univ) (Set.mem_univ _) () (O := owing c 0 0) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait_bar c 0 0); iexact HL
    iexact Hat
  iintro ⟨HO, Hat, -, Hp⟩
  ihave Hp := (Entails.of_eq (all_bar m ρ c)) $$ Hp
  imod (Rounds.cell_close ER (sched m ρ) (Set.mem_univ (K (c, .inl ()))) (fun h => h) (R := 0 + 1) (duties_later m ρ (barCell c))) $$ [Hat] with Hz
  · isplitr; · iexact HI
    iexact Hat
  iapply Hk
  isplitl [Hp]; · iexact Hp
  isplitl [Hz]; · iexact Hz
  iexists _; iexact HO

omit [FloatOps F] in
/-- With the rooms the barrier brings, every slot is new. -/
theorem slots_new :
    iprop(room sM c ∗ (room yM (yp c) ∗ room zM (xp c)) ∗ ((bigSep Finset.univ fun s => stands c s) ∗ bigSep Finset.univ fun s => dues c s)
        ∗ bigSep Finset.univ fun s => claims c s)
      ⊢ (bigSep Finset.univ fun s => slotNew (F := F) c s : sProp 𝕄) := by
  unfold slotNew
  simp only [bigSep_sep']
  iintro ⟨Hs, ⟨Hy, Hz⟩, ⟨Hst, Hdu⟩, Hcl⟩
  isplitl [Hs]; · iapply (room_split sM c) $$ Hs
  isplitl [Hy]; · iapply (room_split yM (yp c)) $$ Hy
  isplitl [Hz]; · iapply (room_split zM (xp c)) $$ Hz
  isplitl [Hdu]; · iexact Hdu
  isplitl [Hst] <;> iassumption

/-- With every slot done, the scratch buffers are whole and the counters zero. -/
theorem slots_done :
    (bigSep Finset.univ fun s => slotDone (F := F) c s : sProp 𝕄) ⊢ iprop(rooms c ∗ bigSep Finset.univ fun s => quiet c s) := by
  unfold slotDone rooms quiet
  rw [bigSep_sep', bigSep_sep', bigSep_sep']
  iintro ⟨Hs, Hy, Hz, Hq⟩
  isplitl [Hs Hy Hz]
  · isplitl [Hs]; · iapply (room_join sM c) $$ Hs
    isplitl [Hy]; · iapply (room_join yM c) $$ Hy
    iapply (room_join zM c) $$ Hz
  iexact Hq

end Barrier

/-! ## The body -/

section Body

variable (K : Dev nD × (Unit ⊕ (Leg × Fin 4)) → ℕ) (c : Dev nD)

/-- What the body runs from, at some names of the cells' invariants. -/
def bodyPre : sProp 𝕄 :=
  iprop(((records m ρ K ∗ purse c) ∗ (cred (tallyAt (barCell c) () 2) ∗ bigSep Finset.univ fun s => claims c s) ∗ levAts waited level) ∗ rooms c
    ∗ owesSome c (owing₀ c) ∗ holdsX m ρ c ∗ partOut m ρ c 0)

/-- What the body leaves. -/
def bodyEnd : sProp 𝕄 := iprop(phiOut c ∗ desk m ρ c 8 (owing c 4 4))

set_option maxHeartbeats 4000000 in
set_option maxRecDepth 65536 in
/-- The body runs from `bodyPre` to `bodyEnd`: the barrier, then every slot through its five states. -/
theorem body_runs (Kt : PUnit → sProp 𝕄) :
    iprop(bodyPre m ρ K c ∗ (bodyEnd m ρ c -∗ Kt ⟨⟩))
      ⊢ runs c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton, runs]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre purse rooms
  iintro ⟨⟨⟨⟨#HR, ⟨Hat, Ht, Ht'⟩, Hps⟩, ⟨Hc, Hcl⟩, #HL⟩, ⟨Hs, Hy, Hz⟩, HO, Hx, Ho⟩, Hk⟩
  -- the two signals, each with the room the neighbour's copies will land in
  iapply (signal_bar m ρ K c (yp c) _ (Fin.ext (k0_dev1_eq c)) false (room yM c) (by show room yM (yp (yp c)) = _; rw [yp_yp])
    (owing₀ c) (owing c 0 0 + tallyAt (barCell (xp c)) () 1) rfl (by routes) _ (by decide)) $$ [Ht Hy HO]
  · isplitr; · iexact HR
    isplitl [Ht]; · iexact Ht
    isplitl [Hy] <;> iassumption
  iintro HO
  iapply (signal_bar m ρ K c (xp c) _ (Fin.ext (k0_dev2_eq c)) true (room zM c) (by show room zM (xp (xp c)) = _; rw [xp_xp])
    (owing c 0 0 + tallyAt (barCell (xp c)) () 1) (owing c 0 0) rfl (by routes) _ (by decide)) $$ [Ht' Hz HO]
  · isplitr; · iexact HR
    isplitl [Ht']; · iexact Ht'
    isplitl [Hz] <;> iassumption
  iintro HO
  iapply (wait_bar m ρ K c _ (by decide)) $$ [Hat Hc HO]
  · isplitr; · iexact HR
    isplitr; · iexact HL
    isplitl [Hat]; · iexact Hat
    isplitl [Hc] <;> iassumption
  iintro ⟨Hyz, HvB, HO⟩
  ihave Hn := (slots_new (F := F) c) $$ [Hs Hyz Hps Hcl]
  · isplitl [Hs]; · iexact Hs
    isplitl [Hyz]; · iexact Hyz
    isplitl [Hps] <;> iassumption
  ihave Hn := (Entails.of_eq (four (fun s => slotNew (F := F) c s))) $$ Hn
  icases Hn with ⟨H0, H1, H2, H3⟩
  ihave HD := (show iprop(holdsX m ρ c ∗ partOut m ρ c 0 ∗ owesSome c (owing c 0 0)) ⊢ desk m ρ c 0 (owing c 0 0) from by unfold desk; exact BI.Entails.refl _) $$ [Hx Ho HO]
  · isplitl [Hx]; · iexact Hx
    isplitl [Ho] <;> iassumption
  ihave #HK := (show iprop(records m ρ K ∗ levAts waited level) ⊢ known m ρ K from by unfold known; exact BI.Entails.refl _) $$ []
  · isplitr; · iexact HR
    iexact HL
  -- every slot from new to done
  iapply (move_send m ρ K c _ (Fin.ext (k0_dev3_eq c)) 0 0 0 k0_pay1 (fun _ => rfl)) $$ [HD H0]
  · isplitr; · iexact HK
    isplitl [HD]; · iexact HD
    iexact H0
  iintro ⟨HD, H0⟩
  iapply (move_send m ρ K c _ (Fin.ext (k0_dev4_eq c)) 1 0 0 k0_pay2 (fun _ => rfl)) $$ [HD H1]
  · isplitr; · iexact HK
    isplitl [HD]; · iexact HD
    iexact H1
  iintro ⟨HD, H1⟩
  iapply (move_send m ρ K c _ (Fin.ext (k0_dev5_eq c)) 2 0 0 k0_pay3 (fun _ => rfl)) $$ [HD H2]
  · isplitr; · iexact HK
    isplitl [HD]; · iexact HD
    iexact H2
  iintro ⟨HD, H2⟩
  iapply (move_send m ρ K c _ (Fin.ext (k0_dev6_eq c)) 3 0 0 k0_pay4 (fun _ => rfl)) $$ [HD H3]
  · isplitr; · iexact HK
    isplitl [HD]; · iexact HD
    iexact H3
  iintro ⟨HD, H3⟩
  iapply (move_pass m ρ K c _ (Fin.ext (k0_dev7_eq c)) 0 0 (dst := slot yM 0) rfl) $$ [HD H0]
  · isplitr; · iexact HK
    isplitl [HD]; · iexact HD
    iexact H0
  iintro ⟨HD, H0⟩
  iapply (move_pass m ρ K c _ (Fin.ext (k0_dev8_eq c)) 1 0 (dst := slot yM 1) rfl) $$ [HD H1]
  · isplitr; · iexact HK
    isplitl [HD]; · iexact HD
    iexact H1
  iintro ⟨HD, H1⟩
  iapply (move_pass m ρ K c _ (Fin.ext (k0_dev9_eq c)) 2 0 (dst := slot yM 2) rfl) $$ [HD H2]
  · isplitr; · iexact HK
    isplitl [HD]; · iexact HD
    iexact H2
  iintro ⟨HD, H2⟩
  iapply (move_pass m ρ K c _ (Fin.ext (k0_dev10_eq c)) 3 0 (dst := slot yM 3) rfl) $$ [HD H3]
  · isplitr; · iexact HK
    isplitl [HD]; · iexact HD
    iexact H3
  iintro ⟨HD, H3⟩
  iapply (move_own m ρ c 0 (owing c 4 4) k0_pay5 (fun _ _ => rfl)) $$ [HD H0]
  · isplitl [HD]; · iexact HD
    iexact H0
  iintro ⟨HD, H0⟩
  iapply (move_own m ρ c 1 (owing c 4 4) k0_pay6 (fun _ _ => rfl)) $$ [HD H1]
  · isplitl [HD]; · iexact HD
    iexact H1
  iintro ⟨HD, H1⟩
  iapply (move_own m ρ c 2 (owing c 4 4) k0_pay7 (fun _ _ => rfl)) $$ [HD H2]
  · isplitl [HD]; · iexact HD
    iexact H2
  iintro ⟨HD, H2⟩
  iapply (move_own m ρ c 3 (owing c 4 4) k0_pay8 (fun _ _ => rfl)) $$ [HD H3]
  · isplitl [HD]; · iexact HD
    iexact H3
  iintro ⟨HD, H3⟩
  iapply (move_take m ρ K c 0 (dst := slot zM 0) rfl k0_pay9 (fun _ _ => rfl)) $$ [HD H0]
  · isplitr; · iexact HK
    isplitl [HD]; · iexact HD
    iexact H0
  iintro ⟨HD, H0⟩
  iapply (move_take m ρ K c 1 (dst := slot zM 1) rfl k0_pay10 (fun _ _ => rfl)) $$ [HD H1]
  · isplitr; · iexact HK
    isplitl [HD]; · iexact HD
    iexact H1
  iintro ⟨HD, H1⟩
  iapply (move_take m ρ K c 2 (dst := slot zM 2) rfl k0_pay11 (fun _ _ => rfl)) $$ [HD H2]
  · isplitr; · iexact HK
    isplitl [HD]; · iexact HD
    iexact H2
  iintro ⟨HD, H2⟩
  iapply (move_take m ρ K c 3 (dst := slot zM 3) rfl k0_pay12 (fun _ _ => rfl)) $$ [HD H3]
  · isplitr; · iexact HK
    isplitl [HD]; · iexact HD
    iexact H3
  iintro ⟨HD, H3⟩
  iapply (move_settle m ρ K c 0 8 (dst := slot sM 0) (dst' := slot yM 0) rfl rfl) $$ [HD H0]
  · isplitr; · iexact HK
    isplitl [HD]; · iexact HD
    iexact H0
  iintro ⟨HD, H0⟩
  iapply (move_settle m ρ K c 1 8 (dst := slot sM 1) (dst' := slot yM 1) rfl rfl) $$ [HD H1]
  · isplitr; · iexact HK
    isplitl [HD]; · iexact HD
    iexact H1
  iintro ⟨HD, H1⟩
  iapply (move_settle m ρ K c 2 8 (dst := slot sM 2) (dst' := slot yM 2) rfl rfl) $$ [HD H2]
  · isplitr; · iexact HK
    isplitl [HD]; · iexact HD
    iexact H2
  iintro ⟨HD, H2⟩
  iapply (move_settle m ρ K c 3 8 (dst := slot sM 3) (dst' := slot yM 3) rfl rfl) $$ [HD H3]
  · isplitr; · iexact HK
    isplitl [HD]; · iexact HD
    iexact H3
  iintro ⟨HD, H3⟩
  unfold runs; rw [wp_ret]; imodintro
  iapply Hk
  unfold bodyEnd phiOut
  isplitr [HD]
  · ihave Hd := (Entails.of_eq (four (fun s => slotDone (F := F) c s)).symm) $$ [H0 H1 H2 H3]
    · isplitl [H0]; · iexact H0
      isplitl [H1]; · iexact H1
      isplitl [H2] <;> iassumption
    ihave Hd := (slots_done (F := F) c) $$ Hd
    icases Hd with ⟨Hr, Hq⟩
    isplitl [Hr]; · iexact Hr
    isplitl [HvB] <;> iassumption
  iexact HD

/-- The staging pipeline's obligation for the body. -/
theorem body_obligation : Pipeline.BodyObligation (dats (F := F) m ρ 0 c) (defs₀ (F := F)) 𝒱₀ () Set.univ := fun t => by
  rw [only_t₀ t, bigSep_W0, bigSep_W0]
  simp only [owns_whole_eq]
  show iprop(phiIn m ρ c ∗ (dats m ρ 0 c).owesAt () t₀.castSucc
      ∗ (∃ d, stg c cc0_stg0_0 ((dats m ρ 0 c).before (0 : Fin 2) t₀ d)) ∗ (∃ d, stg c cc0_stg1_0 ((dats m ρ 0 c).before (1 : Fin 2) t₀ d)))
    ⊢ runs c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6)
        (fun _ => iprop(phiOut c ∗ (dats m ρ 0 c).owesAt () t₀.succ ∗ stg c cc0_stg0_0 (xs m ρ c) ∗ stg c cc0_stg1_0 (outAt m ρ c)))
  unfold phiIn start Pipeline.Dat.owesAt Pipeline.owesWithin
  iintro ⟨⟨⟨⟨%K, HG⟩, Hcl, HL⟩, Hr⟩, ⟨%W, %hW, HO⟩, ⟨%d0, %g0, %hg0, Hx⟩, ⟨%d1, %g1, %hg1, Ho⟩⟩
  have hx : g0 = xs m ρ c := by rw [hg0]; unfold Pipeline.Dat.before; rw [if_pos (fetch0_0 t₀)]; rfl
  subst hx
  iapply (body_runs m ρ K c)
  unfold bodyPre bodyEnd owesSome desk holdsX partOut owesSome
  isplitr []
  · isplitl [HG Hcl HL]
    · isplitl [HG]; · iexact HG
      isplitl [Hcl] <;> iassumption
    isplitl [Hr]; · iexact Hr
    isplitl [HO]; · iexists W; iexact HO
    isplitl [Hx]; · iexact Hx
    iexists g1
    isplitr; · ipureintro; exact good_zero m ρ c g1
    iexact Ho
  iintro ⟨HP, Hx, ⟨%f, %hf, Ho⟩, ⟨%W', HO⟩⟩
  rw [owing_done]
  isplitl [HP]; · iexact HP
  isplitl [HO]
  · iexists W'
    isplitr; · ipureintro; exact fun _ _ => Or.inl trivial
    iexact HO
  isplitl [Hx]
  · iexists _; isplitr; · (ipureintro; rfl)
    iexact Hx
  iexists f; isplitr; · (ipureintro; exact good_all m ρ c f hf)
  iexact Ho

end Body

end Cert.Exchange

end
-- ==== Proof.Launch.lean ====
/-
# 01_k — the launch

The ghost state is dealt to the devices, every cell's invariant is set up at once from the counters at zero, each token
goes to the device that spends it, and each device gets the credit the others owe it. The run of the whole program follows.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the places of a device -/

section Families
omit [FloatOps F]

/-- Over the sixteen transfer semaphores, slot by slot. -/
theorem legs (Φ : Leg × Fin 4 → sProp 𝕄) : bigSep Finset.univ Φ
    = bigSep Finset.univ fun s : Fin 4 => iprop(Φ (.ysend, s) ∗ Φ (.yrecv, s) ∗ Φ (.xsend, s) ∗ Φ (.xrecv, s)) := by
  rw [bigSep_univ_prod, bigSep_univ_eq_bigSepL [Leg.ysend, .yrecv, .xsend, .xrecv] (by decide) (by decide)]
  simp only [bigSep_sep']
  rfl

/-- Over the seventeen semaphores: the barrier, and the others slot by slot. -/
theorem places (Φ : Unit ⊕ (Leg × Fin 4) → sProp 𝕄) : bigSep Finset.univ Φ
    = iprop(Φ (.inl ()) ∗ bigSep Finset.univ fun s : Fin 4 =>
        iprop(Φ (.inr (.ysend, s)) ∗ Φ (.inr (.yrecv, s)) ∗ Φ (.inr (.xsend, s)) ∗ Φ (.inr (.xrecv, s)))) := by
  rw [BI.bigSep_univ_sum, bigSep_univ_of_subsingleton (), legs]
  rfl

/-- A family over the devices, read along a rearrangement of them. -/
theorem around (e : Dev nD ≃ Dev nD) (Φ : Dev nD → sProp 𝕄) : bigSep Finset.univ Φ ⊢ bigSep Finset.univ fun c => Φ (e c) :=
  Entails.of_eq (bigSep_univ_equiv e Φ)

/-- The kernel's sixteen semaphores at zero. -/
theorem own_sems (c : Dev nD) :
    (Pipeline.ownSems0 (Ix := Unit) (Name := ℕ) (U := UU) (Lvl := ℕ) (Val := Elt F) (τ := τ) osem c : sProp 𝕄) = bigSep Finset.univ fun s => quiet c s := by
  unfold Pipeline.ownSems0 quiet
  rw [legs]

/-- The barrier is the one semaphore that outlives the launch. -/
theorem kept_sem (c : Dev nD) : (unscopedSems0 c : sProp 𝕄) = semVal (barCell c) 0 := by
  unfold unscopedSems0
  rw [bigSep_eq_bigSepL_of_eq [SemLoc.reg barS] (by decide) (by decide)]
  rfl

end Families

/-! ## The launch's ghost state -/

/-- Every cell of the exchange. -/
def everyCell : Finset (GSem nD τ sig) := Finset.univ.map ⟨spot, spot_injective⟩

/-- The duty behind each token: a device's two barrier duties, and the one of each of its transfer cells. -/
abbrev duty (p : Dev nD × (Bool ⊕ (Leg × Fin 4))) : GSem nD τ sig × ℕ × Bool := match p.2 with
  | .inl b => (barCell p.1, 0, b)
  | .inr q => (cell p.1 q.1 q.2, 0, false)

theorem duty_injective : Function.Injective duty := by
  rintro ⟨c, a⟩ ⟨d, b⟩ h
  rcases a with a | a <;> rcases b with b | b
  · have h1 : c = d := congrArg (fun x : GSem nD τ sig × ℕ × Bool => x.1.1.1) h
    have h2 : a = b := congrArg (fun x : GSem nD τ sig × ℕ × Bool => x.2.2) h
    rw [h1, h2]
  · exact absurd (congrArg (fun x : GSem nD τ sig × ℕ × Bool => x.1.2) h) (lane_ne_bar _ _).symm
  · exact absurd (congrArg (fun x : GSem nD τ sig × ℕ × Bool => x.1.2) h) (lane_ne_bar _ _)
  · have h1 := spot_injective (a₁ := (c, .inr a)) (a₂ := (d, .inr b)) (congrArg (fun x : GSem nD τ sig × ℕ × Bool => x.1) h)
    have h2 : c = d := congrArg Prod.fst h1
    have h3 : a = b := Sum.inr.inj (congrArg Prod.snd h1)
    rw [h2, h3]

/-- Every duty of the exchange. -/
def everyDuty : Finset (GSem nD τ sig × ℕ × Bool) := Finset.univ.map ⟨duty, duty_injective⟩

/-- The ghost state at launch: the staging pipeline's and the exchange's. -/
def ghost₀ : UU := (initOf (Pipeline.cells cfgs cellOf_inj) (Pipeline.launchToks cfgs cellOf_inj), initOf everyCell everyDuty)

/-- The tokens of device `c`'s own cells. -/
def minted (c : Dev nD) : sProp 𝕄 :=
  iprop((dutyTok ER (barCell c) 0 false ∗ dutyTok ER (barCell c) 0 true)
    ∗ bigSep Finset.univ fun s => iprop(dutyTok ER (cell c .ysend s) 0 false ∗ dutyTok ER (cell c .yrecv s) 0 false
        ∗ dutyTok ER (cell c .xsend s) 0 false ∗ dutyTok ER (cell c .xrecv s) 0 false))

/-- The tokens device `c` will spend. -/
def spent (c : Dev nD) : sProp 𝕄 :=
  iprop((dutyTok ER (barCell (yp c)) 0 false ∗ dutyTok ER (barCell (xp c)) 0 true) ∗ bigSep Finset.univ fun s => dues c s)

/-- What device `c` is dealt of the exchange's ghost state. -/
def dealt (c : Dev nD) : sProp 𝕄 :=
  iprop((bigSep Finset.univ fun p => roundState ER (sched m ρ) (spot (c, p)) 0)
    ∗ (bigSep Finset.univ fun p => iprop(atPos ER (spot (c, p)) 0 ∅ 0 ∗ reached ER (spot (c, p)) 0)) ∗ minted c)

/-- The same, once every cell's invariant stands. -/
def opened (c : Dev nD) : sProp 𝕄 :=
  iprop((bigSep Finset.univ fun p => iprop(∃ κ : ℕ, cellInv ER (sched m ρ) κ (spot (c, p))))
    ∗ (bigSep Finset.univ fun p => iprop(atPos ER (spot (c, p)) 0 ∅ 0 ∗ reached ER (spot (c, p)) 0)) ∗ minted c)

/-- What device `c` then starts with. -/
def equipped (c : Dev nD) : sProp 𝕄 := iprop(∃ K, records m ρ K ∗ purse c)

/-- The exchange's ghost state at launch, dealt out to the devices. -/
theorem deal : BI.own (ER (initOf everyCell everyDuty)) ⊢ (|==> bigSep Finset.univ (dealt m ρ) : sProp 𝕄) := by
  have hcells (Φ : GSem nD τ sig → sProp 𝕄) : bigSep everyCell Φ = bigSep Finset.univ fun c : Dev nD => bigSep Finset.univ fun p => Φ (spot (c, p)) := by
    unfold everyCell; rw [bigSep_map, bigSep_univ_prod]; rfl
  have htoks : bigSep everyDuty (fun x => (dutyTok ER x.1 x.2.1 x.2.2 : sProp 𝕄)) = bigSep Finset.univ fun c : Dev nD => minted c := by
    unfold everyDuty minted
    rw [bigSep_map, bigSep_univ_prod]
    refine bigSep_congr fun c _ => ?_
    rw [BI.bigSep_univ_sum, legs, bigSep_univ_eq_bigSepL [false, true] (by decide) (by decide)]
    rfl
  iintro H
  imod (Rounds.fund ER (sched m ρ) everyCell everyDuty) $$ H with ⟨Hst, Hre, Hat, Htk⟩
  imodintro
  ihave Hst := (Entails.of_eq (hcells fun g => roundState ER (sched m ρ) g 0)) $$ Hst
  ihave Hat := (Entails.of_eq (hcells fun g => atPos ER g 0 ∅ 0)) $$ Hat
  ihave Hre := (Entails.of_eq (hcells fun g => reached ER g 0)) $$ Hre
  ihave Htk := (Entails.of_eq htoks) $$ Htk
  unfold dealt; simp only [bigSep_sep']
  isplitl [Hst]; · iexact Hst
  isplitl [Hat Hre]
  · isplitl [Hat] <;> iassumption
  iexact Htk

/-- The invariants of a device's cells are set up from its counters at zero. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> opened m ρ c := by
  have hv : iprop(Pipeline.ownSems0 (Ix := Unit) (Name := ℕ) (U := UU) (Lvl := ℕ) (Val := Elt F) (τ := τ) osem c ∗ unscopedSems0 c)
      ⊢ (bigSep Finset.univ fun p => semVal (spot (c, p)) 0 : sProp 𝕄) := by
    rw [own_sems, kept_sem, places]; unfold quiet
    iintro ⟨H1, H2⟩
    isplitl [H2]; · iexact H2
    iexact H1
  have ho : iprop((bigSep Finset.univ fun p => semVal (spot (c, p)) 0) ∗ bigSep Finset.univ fun p => roundState ER (sched m ρ) (spot (c, p)) 0)
      ⊢ (|={Set.univ}=> bigSep Finset.univ fun p => iprop(∃ κ : ℕ, cellInv ER (sched m ρ) κ (spot (c, p))) : sProp 𝕄) := by
    rw [← bigSep_sep']
    exact (bigSep_mono fun p _ => (Rounds.body_intro ER (sched m ρ) (spot (c, p))).trans inv_alloc).trans (bigSep_fupd _ _)
  unfold dealt opened
  iintro ⟨H1, H2, Hst, Hat, Htk⟩
  ihave Hv := hv $$ [H1 H2]
  · isplitl [H1] <;> iassumption
  imod ho $$ [Hv Hst] with Hi
  · isplitl [Hv] <;> iassumption
  imodintro
  isplitl [Hi]; · iexact Hi
  isplitl [Hat] <;> iassumption

omit [FloatOps F] in
/-- Every token goes to the device that spends it: the `y` ones step along `y`, the `x` ones along `x`. -/
theorem hand_round : (bigSep Finset.univ fun c => minted c : sProp 𝕄) ⊢ bigSep Finset.univ fun c => spent (F := F) c := by
  unfold minted spent dues
  simp only [bigSep_sep']
  iintro ⟨⟨B1, B2⟩, T1, T2, T3, T4⟩
  isplitl [B1 B2]
  · isplitl [B1]; · iapply (around flipY fun c => dutyTok ER (barCell c) 0 false) $$ B1
    iapply (around flipX fun c => dutyTok ER (barCell c) 0 true) $$ B2
  isplitl [T1]; · iexact T1
  isplitl [T2]; · iapply (around flipY fun c => bigSep Finset.univ fun s => dutyTok ER (cell c .yrecv s) 0 false) $$ T2
  isplitl [T3]; · iexact T3
  iapply (around flipX fun c => bigSep Finset.univ fun s => dutyTok ER (cell c .xrecv s) 0 false) $$ T4

/-- A device's positions and tokens make its purse. -/
theorem purse_intro (c : Dev nD) : iprop((bigSep Finset.univ fun p => atPos ER (spot (c, p)) 0 ∅ 0) ∗ spent c) ⊢ (purse c : sProp 𝕄) := by
  rw [places]
  unfold spent purse stands
  iintro ⟨⟨A, As⟩, ⟨B1, B2⟩, Ds⟩
  isplitl [A B1 B2]
  · isplitl [A]; · iexact A
    isplitl [B1] <;> iassumption
  isplitl [As] <;> iassumption

/-- With every invariant standing, each device has its purse, and all know all the cells. -/
theorem equip : (bigSep Finset.univ (opened m ρ) : sProp 𝕄) ⊢ bigSep Finset.univ (equipped m ρ) := by
  unfold opened
  rw [bigSep_sep', bigSep_sep', ← bigSep_univ_prod (fun p : Dev nD × (Unit ⊕ (Leg × Fin 4)) => iprop(∃ κ : ℕ, cellInv ER (sched m ρ) κ (spot p))),
    bigSep_congr (s := Finset.univ) (fun (c : Dev nD) _ => bigSep_sep' Finset.univ (fun p => (atPos ER (spot (c, p)) 0 ∅ 0 : sProp 𝕄)) (fun p => reached ER (spot (c, p)) 0)),
    bigSep_sep', ← bigSep_univ_prod (fun p : Dev nD × (Unit ⊕ (Leg × Fin 4)) => (reached ER (spot p) 0 : sProp 𝕄))]
  iintro ⟨HI, ⟨Hat, #HR⟩, Htk⟩
  ihave HK := (BI.bigSep_exists_pi Finset.univ (fun (p : Dev nD × (Unit ⊕ (Leg × Fin 4))) (κ : ℕ) => (cellInv ER (sched m ρ) κ (spot p) : sProp 𝕄))) $$ HI
  icases HK with ⟨%K, #HI⟩
  ihave Htk := (hand_round (F := F)) $$ Htk
  iapply (BI.bigSep_with_persistent (R := records m ρ K) (Φ := fun c => iprop((bigSep Finset.univ fun p => atPos ER (spot (c, p)) 0 ∅ 0) ∗ spent c))
    fun c _ => show iprop(records m ρ K ∗ ((bigSep Finset.univ fun p => atPos ER (spot (c, p)) 0 ∅ 0) ∗ spent c)) ⊢ equipped m ρ c from by
      unfold equipped
      iintro ⟨#HR, H⟩
      iexists K
      isplitr; · iexact HR
      iapply (purse_intro (F := F) c) $$ H)
  rw [bigSep_sep']
  isplitr
  · unfold records
    isplitr; · iexact HI
    iexact HR
  isplitl [Hat] <;> iassumption

/-- From every counter at zero to every device equipped. -/
theorem set_up : (bigSep Finset.univ fun c => iprop(Pipeline.ownSems0 (Ix := Unit) (Name := ℕ) (U := UU) (Lvl := ℕ) (Val := Elt F) (τ := τ) osem c
      ∗ unscopedSems0 c ∗ dealt m ρ c) : sProp 𝕄)
    ⊢ |={Set.univ}=> bigSep Finset.univ (equipped m ρ) :=
  ((bigSep_mono fun c _ => open_cells m ρ c).trans (bigSep_fupd _ _)).trans (BI.fupd_mono (equip m ρ))

/-! ## The credit at launch -/

section Credit
omit [FloatOps F]

theorem cell_eq {c d : Dev nD} {l k : Leg} {s t : Fin 4} : Iff (cell c l s = cell d k t) (c = d ∧ l = k ∧ s = t) := by
  refine ⟨fun h => ?_, fun ⟨h1, h2, h3⟩ => by rw [h1, h2, h3]⟩
  have h1 := spot_injective (a₁ := (c, .inr (l, s))) (a₂ := (d, .inr (k, t))) h
  have h2 : (l, s) = (k, t) := Sum.inr.inj (congrArg Prod.snd h1)
  exact ⟨congrArg Prod.fst h1, congrArg Prod.fst h2, congrArg Prod.snd h2⟩

theorem bar_eq {c d : Dev nD} : Iff (barCell c = barCell d) (c = d) :=
  ⟨fun h => congrArg Prod.fst (spot_injective (a₁ := (c, .inl ())) (a₂ := (d, .inl ())) h), fun h => by rw [h]⟩

theorem yp_iff (c d : Dev nD) : Iff (c = yp d) (d = yp c) := ⟨fun h => by rw [h, yp_yp], fun h => by rw [h, yp_yp]⟩
theorem xp_iff (c d : Dev nD) : Iff (c = xp d) (d = xp c) := ⟨fun h => by rw [h, xp_xp], fun h => by rw [h, xp_xp]⟩

/-- What device `d` owes device `c`'s barrier: a unit from each neighbour. -/
theorem owed_bar (c d : Dev nD) : owing₀ d (barCell c) () = (if d = xp c then 1 else 0) + if d = yp c then 1 else 0 := by
  have h0 : owing d 0 0 (barCell c) () = 0 := by
    by_contra h
    rcases owing_pos (Nat.pos_of_ne_zero h) with ⟨s, -, hs⟩ | ⟨s, -, hs⟩
    · exact lane_ne_bar _ _ (congrArg Prod.snd hs).symm
    · exact lane_ne_bar _ _ (congrArg Prod.snd hs).symm
  unfold owing₀
  rw [Pi.add_apply, Finsupp.add_apply, Pi.add_apply, Finsupp.add_apply, h0, tallyAt_apply, tallyAt_apply]
  simp only [bar_eq, and_true, xp_iff c d, yp_iff c d, zero_add]

/-- A tally at one transfer cell, read at another. -/
theorem lane_tally (c d : Dev nD) (l k : Leg) (s t : Fin 4) :
    tallyAt (Ix := Unit) (cell d k t) () N (cell c l s) () = if c = d ∧ l = k ∧ s = t then N else 0 := by
  rw [tallyAt_apply]
  exact if_congr ⟨fun h => cell_eq.mp h.1, fun h => ⟨cell_eq.mpr h, rfl⟩⟩ rfl rfl

/-- What device `d` owes a transfer cell of device `c`. -/
theorem owed_lane (c d : Dev nD) (l : Leg) (s : Fin 4) : owing₀ d (cell c l s) ()
    = (∑ t : Fin 4, if c = yp d ∧ l = .yrecv ∧ s = t then N else 0) + ∑ t : Fin 4, if c = xp d ∧ l = .xrecv ∧ s = t then N else 0 := by
  unfold owing₀ owing
  rw [Pi.add_apply, Finsupp.add_apply, Pi.add_apply, Finsupp.add_apply, Pi.add_apply, Finsupp.add_apply, tallyAt_apply, tallyAt_apply,
    if_neg (fun h => lane_ne_bar _ _ (congrArg Prod.snd h.1)), if_neg (fun h => lane_ne_bar _ _ (congrArg Prod.snd h.1)), add_zero, add_zero,
    Finset.sum_apply, Finsupp.finset_sum_apply, Finset.sum_apply, Finsupp.finset_sum_apply,
    show (Finset.univ.filter fun t : Fin 4 => 0 ≤ t.val) = Finset.univ from by decide,
    Finset.sum_congr rfl fun t _ => lane_tally c (yp d) l .yrecv s t, Finset.sum_congr rfl fun t _ => lane_tally c (xp d) l .xrecv s t]

/-- What device `d` owes device `c`'s `y` receive of slot `s`: a copy, if it is the `y` neighbour. -/
theorem owed_yrecv (c d : Dev nD) (s : Fin 4) : owing₀ d (cell c .yrecv s) () = if d = yp c then N else 0 := by
  rw [owed_lane]
  simp only [yp_iff c d, reduceCtorEq, false_and, and_false, if_false, Finset.sum_const_zero, add_zero, true_and]
  by_cases h : d = yp c
  · simp only [h, true_and, if_true]; rw [Finset.sum_ite_eq Finset.univ s fun _ => N, if_pos (Finset.mem_univ _)]
  · simp only [h, false_and, if_false, Finset.sum_const_zero]

/-- What device `d` owes device `c`'s `x` receive of slot `s`: a copy, if it is the `x` neighbour. -/
theorem owed_xrecv (c d : Dev nD) (s : Fin 4) : owing₀ d (cell c .xrecv s) () = if d = xp c then N else 0 := by
  rw [owed_lane]
  simp only [xp_iff c d, reduceCtorEq, false_and, and_false, if_false, Finset.sum_const_zero, zero_add, true_and]
  by_cases h : d = xp c
  · simp only [h, true_and, if_true]; rw [Finset.sum_ite_eq Finset.univ s fun _ => N, if_pos (Finset.mem_univ _)]
  · simp only [h, false_and, if_false, Finset.sum_const_zero]

/-- A cell's credit at launch is what all the devices owe it. -/
theorem credit_of (g : GSem nD τ sig) (n : ℕ) (h : ∑ d : Dev nD, owing₀ d g () = n) :
    tallyOn g (launchCredit (Pipeline.owing owing₀) 0 g) = (tallyAt g () n : CellTallies nD τ sig Unit) := by
  unfold tallyAt
  refine congrArg _ (Finsupp.ext fun u => ?_)
  cases u
  rw [Pipeline.launchCredit_owing, Finsupp.single_eq_same, h]

theorem one_owes (d₀ : Dev nD) (n : ℕ) : (∑ d : Dev nD, if d = d₀ then n else 0) = n := by
  rw [Finset.sum_ite_eq' Finset.univ d₀ fun _ => n, if_pos (Finset.mem_univ _)]

/-- A device's credit at launch: two units at its barrier, a copy at each of its receives. -/
theorem credit (c : Dev nD) : (Pipeline.launchCred owing₀ c : sProp 𝕄) ⊢ iprop(cred (tallyAt (barCell c) () 2) ∗ bigSep Finset.univ fun s => claims c s) := by
  unfold Pipeline.launchCred claims
  refine (BI.bigSep_subset (Finset.subset_univ (Finset.univ.map ⟨place, place_injective⟩))).trans ?_
  rw [bigSep_map, places]
  refine BI.sep_mono (Entails.of_eq (congrArg cred (credit_of (barCell c) 2 ?_))) (bigSep_mono fun s _ => ?_)
  · rw [Finset.sum_congr rfl fun d _ => owed_bar c d, Finset.sum_add_distrib, one_owes, one_owes]
  have hy := credit_of (cell c .yrecv s) N (by rw [Finset.sum_congr rfl fun d _ => owed_yrecv c d s, one_owes])
  have hx := credit_of (cell c .xrecv s) N (by rw [Finset.sum_congr rfl fun d _ => owed_xrecv c d s, one_owes])
  rw [← hy, ← hx]
  show iprop(cred _ ∗ cred (tallyOn (cell c .yrecv s) _) ∗ cred _ ∗ cred (tallyOn (cell c .xrecv s) _)) ⊢ (_ : sProp 𝕄)
  iintro H
  icases H with ⟨-, H1, -, H2⟩
  isplitl [H1]; · iexact H1
  iexact H2

end Credit

/-! ## The run -/

theorem own_sem_facts : Pipeline.OwnSemFacts cfg0.spec osem := by decide

theorem whole_share (c : Dev nD) (w : Fin cfg0.W) : (dats m ρ 0 c).share w = fullShare := by unfold Pipeline.Dat.share; split <;> rfl

/-- The room of a whole scratch buffer. -/
theorem room_whole (b : Memref sig .tc .vmem S4x64x512 .bf16) (c : Dev nD) (hb : b.view.set = Finset.univ) :
    (room b c : sProp 𝕄) = iprop(∃ f : Buf (Elt F) (b.view.loc (c : Thread nD τ)), b.view.loc (c : Thread nD τ) ↦{fullShare} f) := by
  unfold room; rw [hb]

/-- The launch's scratch buffers are the three rooms. -/
theorem rooms_eq (c : Dev nD) : (Pipeline.scopedRest (Ix := Unit) (Name := ℕ) (U := UU) (Lvl := ℕ) (Val := Elt F) cfg0.spec c : sProp 𝕄) = rooms c := by
  unfold rooms
  rw [room_whole sM c (View.set_whole _), room_whole yM c (View.set_whole _), room_whole zM c (View.set_whole _)]
  exact scopedRest0_eq c

/-- What the launch gives a device's body. -/
theorem begin_body (c : Dev nD) :
    iprop(Pipeline.unscopedRestP Pipeline.Prefetch.none cfg0.spec c (fun b => m ((c : Thread nD τ).loc b)) ∗ levAts waited level
        ∗ Pipeline.launchCred owing₀ c ∗ prngReg c (ρ c) ∗ equipped m ρ c)
      ⊢ |={Set.univ}=> iprop(start m ρ c ∗ emp) := by
  iintro ⟨-, HL, Hc, -, HG⟩
  ihave Hc := (credit (F := F) c) $$ Hc
  imodintro
  unfold start equipped
  isplitl
  · isplitl [HG]; · iexact HG
    isplitl [Hc] <;> iassumption
  iempintro

/-- With the scratch buffers the body begins. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phiIn m ρ c from rfl, rooms_eq]
  unfold phiIn
  iintro ⟨Hs, -, Hr⟩
  isplitl [Hs] <;> iassumption

/-- At the end the scratch buffers and every counter, at zero, go back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phiOut c from rfl, rooms_eq, own_sems, kept_sem]
  unfold phiOut
  iintro ⟨Hr, Hb, Hq⟩
  isplitl [Hb]; · iexact Hb
  isplitl [Hq] <;> iassumption

/-- The staging pipeline's waits are below everything owed. -/
theorem stage_waits (c : Dev nD) : (levAts waited level : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds after the run. -/
def final (c : Dev nD) (w : Fin cfg0.W) : Buf (Elt F) ((cfg0.win w).arr.view.loc (c : Thread nD τ)) := (dats m ρ 0 c).arrAt w cfg0.N

set_option maxRecDepth 8000 in
/-- Every weakly fair run of the program on the 2 × 2 mesh, from any memory with zero counters and whatever the float
    values are, terminates with each device's two arrays at `final` and every counter at zero. -/
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := whole_share m ρ) (hdistinct := winFacts0.arr_inj)
    (O₀ := owing₀) (howed₀ := fun _ => rfl) (howedN := fun _ => rfl)
    (L := waited) (lv := level) (hL := waited_ne) (hwaits := stage_waits m ρ)
    (G := dealt m ρ) (G' := equipped m ρ) (u₀ := ghost₀)
    (hu₀ := by
      unfold ghost₀
      iintro H
      ihave H := (ownU_pair _ _) $$ H
      icases H with ⟨HP, HX⟩
      imod (deal m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := begin_body m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is what it was. -/
theorem final_in (c : Dev nD) : final m ρ c (0 : Fin 2) = m ((c : Thread nD τ).loc main_arg0) :=
  (dats (F := F) m ρ 0 c).arrAt_in (0 : Fin 2) rfl _

end Cert.Exchange

end
-- ==== Proof.Value.lean ====
/-
# 01_k — the values

What the run leaves in each device's result array is its block of the columns of the reference's sum over the first axis:
the device's own block and its partner's are the two terms of that sum, at every row.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.PureOps.Ideal.Laws

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The block a device stages is the whole of its input array. -/
theorem xs_eq (c : Dev nD) : xs m ρ c = m ((c : Thread nD τ).loc main_arg0) := by
  have z : (fun a => (win0_0.index (0 : Fin 1)) a * main_arg0.ty.shape.size a) = fun _ => 0 :=
    funext fun a => by fin_cases a <;> decide
  exact Memref.read_access_unit_zero (Elt F) main_arg0 z (fun a => by fin_cases a <;> decide) _

/-- The result array ends as the staged result. -/
theorem final_out (c : Dev nD) : final m ρ c (1 : Fin 2) = outAt m ρ c := by
  have z : (fun a => (win0_1.index (0 : Fin 1)) a * main_v1.ty.shape.size a) = fun _ => 0 :=
    funext fun a => by fin_cases a <;> decide
  have whole := Memref.read_access_unit_zero (Elt F) main_v1 z (fun a => by fin_cases a <;> decide) (final m ρ c (1 : Fin 2))
  refine whole.symm.trans ?_
  unfold final
  have step := (dats m ρ 0 c).arrAt_succ (1 : Fin 2) (0 : Fin 1)
  rw [if_pos (flush0_1 (0 : Fin 1))] at step
  refine (congrArg _ step).trans ?_
  exact View.read_write_univ (v := (win0_1.blk (0 : Fin 1)).view) _ _

/-- The run read at the two arrays: every device's result array ends at `outAt`, its input array is what it was, and
    every counter is zero. -/
theorem run_arrays : θ_run defs (onTc (τ := τ) (main (F := F))) (s₀ m ρ)
    (fun r => (∀ c : Dev nD, r.2.mem ((c : Thread nD τ).loc main_v1) = outAt m ρ c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (final_out m ρ c),
    (h.1 c (0 : Fin 2)).trans (final_in m ρ c)⟩, h.2⟩) (run_main m ρ)

/-! ## The sum -/

/-- The column at which device `c`'s element `i` lies in the whole output. -/
def column (c : Dev nD) (i : S512x512.Idx) : Fin 1024 :=
  ⟨512 * (c.val % 2) + (i 1).val, by have h : (i 1).val < 512 := (i 1).isLt; omega⟩

/-- Device `c`'s slab of the whole input is the one numbered by its `y` coordinate. -/
theorem slab_apply {α : Type} (c : Dev nD) (x : (⟨3, ![2, 512, 1024]⟩ : Shape).Idx → α) (r : Fin 512) (k : Fin 1024) :
    (Layout.blockN ⟨3, ![1, 512, 1024]⟩ ⟨3, ![2, 512, 1024]⟩ (Layout.meshBlock [2, 2] ![[1], [], []] c) x) (ix3 (0 : Fin 1) r k)
      = x (ix3 (⟨c.val % 2, Nat.mod_lt _ Nat.two_pos⟩ : Fin 2) r k) := by
  refine congrArg x (funext fun a => Fin.ext ?_)
  fin_cases a
  · show Layout.meshLin [2, 2] c.val [1] * 1 + 0 = c.val % 2
    revert c; decide
  · show 0 * 512 + r.val = r.val
    omega
  · show 0 * 1024 + k.val = k.val
    omega

/-- Device `c`'s block of the whole output is the columns of its `y` coordinate, all rows. -/
theorem strip_apply {α : Type} (c : Dev nD) (y : (⟨2, ![512, 1024]⟩ : Shape).Idx → α) (i : S512x512.Idx) :
    (Layout.blockN ⟨2, ![512, 512]⟩ ⟨2, ![512, 1024]⟩ (Layout.meshBlock [2, 2] ![[], [1]] c) y) i
      = y (ix2 (i 0 : Fin 512) (column c i)) := by
  refine congrArg y (funext fun a => Fin.ext ?_)
  fin_cases a
  · show 0 * 512 + (i 0).val = (i 0).val
    omega
  · show Layout.meshLin [2, 2] c.val [1] * 512 + (i 1).val = 512 * (c.val % 2) + (i 1).val
    have h : Layout.meshLin [2, 2] c.val [1] = c.val % 2 := by revert c; decide
    rw [h, Nat.mul_comm]

/-- The partner's `y` coordinate is the other one. -/
theorem partner_mod (c : Dev nD) (i : S512x512.Idx) : (partner c i).val % 2 = 1 - c.val % 2 := by
  unfold partner
  split
  · exact yp_mod c
  · rw [yp_mod, xp_mod]

end Cert.Exchange

namespace Cert.Exchange

open Cert.KernelIdeal Cert.KernelIdeal.Gen
open Idealize.ShloMosaic Idealize.ShloMosaic.TcCoe Idealize.SL.Sem

/-- The reference's value: the sum of the whole input over its first axis. -/
def total (x : (⟨3, ![2, 512, 1024]⟩ : Shape).Idx → Elt Ideal .bf16) : (⟨2, ![512, 1024]⟩ : Shape).Idx → Elt Ideal .f32 :=
  Host.reduceAdd (extf .f32 (x : FVec Ideal ⟨3, ![2, 512, 1024]⟩ .bf16) bitsLt_bf16_f32)
    (constant (F := Ideal) ⟨0, ![]⟩ .f32 0x00000000#32)
    Cert.ReferenceIdeal.Gen.reducesTo_S2x512x1024_S512x1024_d0 Cert.ReferenceIdeal.Gen.h_S_

/-- Over the extended reals the sum over the first axis is the two slabs added. -/
theorem total_apply (x : (⟨3, ![2, 512, 1024]⟩ : Shape).Idx → EReal) (r : Fin 512) (k : Fin 1024) :
    total x (ix2 r k) = x (ix3 (0 : Fin 2) r k) + x (ix3 (1 : Fin 2) r k) := by
  unfold total
  rw [ValueIdx.hostReduceAdd_apply, Ideal.hostReduceAdd_r3_a0, Fin.sum_univ_two]
  show Ideal.ofBits .f32 0x00000000#32 + _ = _
  rw [Ideal.ofBits_zero_f32, zero_add]
  rfl

/-- When every device's input array is its slab of a whole input, device `c`'s result is its block of the columns of the
    whole input's sum over the first axis. -/
theorem outAt_total (m : (ℓ : Loc nD τ sig) → Buf (Elt Ideal) ℓ) (ρ : Dev nD → PrngReg)
    (x : (⟨3, ![2, 512, 1024]⟩ : Shape).Idx → EReal)
    (slabs : ∀ c : Dev nD, m ((c : Thread nD τ).loc main_arg0)
      = Layout.blockN ⟨3, ![1, 512, 1024]⟩ ⟨3, ![2, 512, 1024]⟩ (Layout.meshBlock [2, 2] ![[1], [], []] c) x) (c : Dev nD) :
    outAt m ρ c = Layout.blockN ⟨2, ![512, 512]⟩ ⟨2, ![512, 1024]⟩ (Layout.meshBlock [2, 2] ![[], [1]] c) (total x) := by
  have read : ∀ (d : Dev nD) (i : S512x512.Idx), xs m ρ d (place3 c i)
      = x (ix3 (⟨d.val % 2, Nat.mod_lt _ Nat.two_pos⟩ : Fin 2) (i 0 : Fin 512) (column c i)) := fun d i =>
    (congrFun ((xs_eq m ρ d).trans (slabs d)) _).trans (slab_apply d x _ _)
  refine funext fun (i : S512x512.Idx) => ?_
  refine Eq.trans ?_ ((strip_apply c (total x) i).trans (total_apply x (i 0 : Fin 512) (column c i))).symm
  show (HAdd.hAdd (α := EReal) (xs m ρ c (place3 c i)) (xs m ρ (partner c i) (place3 c i)) : EReal) = _
  rw [read c i, read (partner c i) i]
  rcases Nat.mod_two_eq_zero_or_one c.val with h | h
  · rw [show (⟨c.val % 2, Nat.mod_lt _ Nat.two_pos⟩ : Fin 2) = 0 from Fin.ext h,
      show (⟨(partner c i).val % 2, Nat.mod_lt _ Nat.two_pos⟩ : Fin 2) = 1 from Fin.ext ((partner_mod c i).trans (congrArg (1 - ·) h))]
  · rw [show (⟨c.val % 2, Nat.mod_lt _ Nat.two_pos⟩ : Fin 2) = 1 from Fin.ext h,
      show (⟨(partner c i).val % 2, Nat.mod_lt _ Nat.two_pos⟩ : Fin 2) = 0 from Fin.ext ((partner_mod c i).trans (congrArg (1 - ·) h))]
    exact add_comm _ _

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- Whatever the float values are, the kernel's text runs on the mesh, leaves its input arrays as they were and every
    counter at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.Exchange.run_arrays m ρ)

/-- The bodies of the kernel and of the idealized kernel agree at their one label. -/
theorem bodies_same : Cert.KernelIdeal.defs₀ (F := Bits) = Cert.Kernel.defs₀ (F := Bits) :=
  congrArg Defs.onTc (funext fun k => funext fun a => by
    obtain ⟨k, hk⟩ := k
    obtain rfl : k = 0 := Nat.lt_one_iff.1 hk
    obtain ⟨t, s⟩ := a
    rfl)

/-- So do the two programs' tables of bodies with the staging pipeline's. -/
theorem tables_same : Cert.KernelIdeal.defs (F := Bits) = Cert.Kernel.defs (F := Bits) :=
  congrArg (Pipeline.defs Cert.Kernel.pcfgs) bodies_same

/-- The kernel as printed runs on the mesh, leaves its input arrays as they were and every counter at zero. Its text is
    the idealized kernel's, so this is that program's run at bit patterns. -/
theorem frame_kernel : Cert.quiescent_Kernel := fun m ρ _ => by
  have h := kept (F := Bits) m ρ
  rw [tables_same] at h
  exact h

/-- The idealized kernel runs likewise over the extended reals. -/
theorem frame_ideal : Cert.quiescent_KernelIdeal := fun m ρ _ => kept (F := Ideal) m ρ

/-- The reference runs over the extended reals, leaves its input array as it was, and has no counter that is not zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From input arrays that are the slabs of the reference's input, every device's result array ends as its block of the
    columns of the reference's result. -/
theorem algebraic : Cert.algebraic_KernelIdeal_ReferenceIdeal := fun m ρ m' ρ' _ slabs =>
  ⟨Cert.Exchange.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.Exchange.outAt_total m ρ _ slabs c), (h.1 c).2⟩)
      (Cert.Exchange.run_arrays (F := Ideal) m ρ),
    (θ_run Cert.ReferenceIdeal.defs _ _).mono (fun _ h => h 0) (Cert.ReferenceIdeal.Value.run (F := Ideal) m' ρ')⟩

/-- The certificate's five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
